-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_ints [hPre_drawn_ints : Cert.Pre_drawn_ints.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_ints.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_ints [hPre_drawn_ints : Cert.Pre_drawn_ints.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_ints.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn_ints [hKernelIdeal : Cert.KernelIdeal.Facts] [hPre_drawn_ints : Cert.Pre_drawn_ints.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_ints m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn_ints [hReferenceIdeal : Cert.ReferenceIdeal.Facts] [hPre_drawn_ints : Cert.Pre_drawn_ints.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_ints m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_drawn_ints [hKernelIdeal : Cert.KernelIdeal.Facts] [hReferenceIdeal : Cert.ReferenceIdeal.Facts] [hPre_drawn_ints : Cert.Pre_drawn_ints.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_ints m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn_ints : Cert.Pre_drawn_ints.Facts),
    quiescent_Kernel (hKernel := hKernel)
    ∧ quiescent_KernelIdeal (hKernelIdeal := hKernelIdeal)
    ∧ quiescent_KernelIdeal_pre_drawn_ints (hKernelIdeal := hKernelIdeal) (hPre_drawn_ints := hPre_drawn_ints)
    ∧ quiescent_ReferenceIdeal (hReferenceIdeal := hReferenceIdeal)
    ∧ quiescent_ReferenceIdeal_pre_drawn_ints (hReferenceIdeal := hReferenceIdeal) (hPre_drawn_ints := hPre_drawn_ints)
    ∧ preserves_Kernel_KernelIdeal
    ∧ algebraic_KernelIdeal_ReferenceIdeal_pre_drawn_ints (hKernelIdeal := hKernelIdeal) (hReferenceIdeal := hReferenceIdeal) (hPre_drawn_ints := hPre_drawn_ints)
-- ==== Pre_drawn_ints.lean ====
abbrev S800000x3 : Shape := ⟨2, ![800000, 3]⟩
abbrev S800000 : Shape := ⟨1, ![800000]⟩
abbrev S1x1 : Shape := ⟨2, ![1, 1]⟩
abbrev S3x64 : Shape := ⟨2, ![3, 64]⟩
abbrev S64 : Shape := ⟨1, ![64]⟩
abbrev S100x64 : Shape := ⟨2, ![100, 64]⟩
abbrev S64x1 : Shape := ⟨2, ![64, 1]⟩
abbrev S1 : Shape := ⟨1, ![1]⟩
abbrev S_ : Shape := ⟨0, ![]⟩

class Facts : Prop where
  bcast_S_S800000 : S_.BroadcastsInDim S800000 (![] : Fin 0 → Fin S800000.rank)

variable [Facts]

def fn {F : FTy → Type} [FloatOps F] (main_arg0 : FVec F S800000x3 .f32) (main_arg1 : FVec F S800000x3 .f32) (main_arg2 : IVec S800000 32) (main_arg3 : IVec S800000 32) (main_arg4 : FVec F S800000 .f32) (main_arg5 : FVec F S1x1 .f32) (main_arg6 : FVec F S3x64 .f32) (main_arg7 : FVec F S64 .f32) (main_arg8 : FVec F S100x64 .f32) (main_arg9 : FVec F S64x1 .f32) (main_arg10 : FVec F S1 .f32) : IVec S800000 1 :=
  let main_c : IVec S_ 32 := constantI S_ 32 0#32
  let main_v0 : IVec S800000 32 := broadcastInDim S800000 ![] bcast_S_S800000 main_c
  let main_v1 : IVec S800000 1 := cmpi .eq main_arg2 main_v0
  let main_c_0 : IVec S_ 32 := constantI S_ 32 0#32
  let main_v2 : IVec S800000 32 := broadcastInDim S800000 ![] bcast_S_S800000 main_c_0
  let main_v3 : IVec S800000 1 := cmpi .sge main_arg3 main_v2
  let main_v4 : IVec S800000 1 := andi main_v1 main_v3
  let main_c_1 : IVec S_ 32 := constantI S_ 32 100#32
  let main_v5 : IVec S800000 32 := broadcastInDim S800000 ![] bcast_S_S800000 main_c_1
  let main_v6 : IVec S800000 1 := cmpi .slt main_arg3 main_v5
  let main_v7 : IVec S800000 1 := andi main_v4 main_v6
  main_v7
-- ==== Kernel.lean ====
abbrev S800000x3 : Shape := ⟨2, ![800000, 3]⟩
abbrev S800000 : Shape := ⟨1, ![800000]⟩
abbrev S1x1 : Shape := ⟨2, ![1, 1]⟩
abbrev S3x64 : Shape := ⟨2, ![3, 64]⟩
abbrev S64 : Shape := ⟨1, ![64]⟩
abbrev S100x64 : Shape := ⟨2, ![100, 64]⟩
abbrev S64x1 : Shape := ⟨2, ![64, 1]⟩
abbrev S1 : Shape := ⟨1, ![1]⟩
abbrev S64x3 : Shape := ⟨2, ![64, 3]⟩
abbrev S64x100 : Shape := ⟨2, ![64, 100]⟩
abbrev S6x800000 : Shape := ⟨2, ![6, 800000]⟩
abbrev S3x1 : Shape := ⟨2, ![3, 1]⟩
abbrev S_ : Shape := ⟨0, ![]⟩
abbrev S4x1 : Shape := ⟨2, ![4, 1]⟩
abbrev S800000x6 : Shape := ⟨2, ![800000, 6]⟩
abbrev S16384x3 : Shape := ⟨2, ![16384, 3]⟩
abbrev S16384 : Shape := ⟨1, ![16384]⟩
abbrev S6x16384 : Shape := ⟨2, ![6, 16384]⟩
abbrev S1x16384 : Shape := ⟨2, ![1, 16384]⟩
abbrev S3x16384 : Shape := ⟨2, ![3, 16384]⟩
abbrev S64x16384 : Shape := ⟨2, ![64, 16384]⟩
abbrev S100x16384 : Shape := ⟨2, ![100, 16384]⟩
abbrev S1x64x16384 : Shape := ⟨3, ![1, 64, 16384]⟩
abbrev S1x1x1 : Shape := ⟨3, ![1, 1, 1]⟩
abbrev S1x3x16384 : Shape := ⟨3, ![1, 3, 16384]⟩
abbrev S3 : Shape := ⟨1, ![3]⟩
abbrev S16384x6 : Shape := ⟨2, ![16384, 6]⟩

abbrev nBuf : Space → Nat
  | .hbm => 35
  | .vmem => 26
  | .smem => 0
  | _ => 0

abbrev bufTy : (tb : Table) → Fin (tcTables nBuf tb) → BufTy
  | .hbm, ⟨0, _⟩ => ⟨S800000x3, .f32⟩
  | .hbm, ⟨1, _⟩ => ⟨S800000x3, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S1x1, .f32⟩
  | .hbm, ⟨6, _⟩ => ⟨S3x64, .f32⟩
  | .hbm, ⟨7, _⟩ => ⟨S64, .f32⟩
  | .hbm, ⟨8, _⟩ => ⟨S100x64, .f32⟩
  | .hbm, ⟨9, _⟩ => ⟨S64x1, .f32⟩
  | .hbm, ⟨10, _⟩ => ⟨S1, .f32⟩
  | .hbm, ⟨11, _⟩ => ⟨S64x3, .f32⟩
  | .hbm, ⟨12, _⟩ => ⟨S64x100, .f32⟩
  | .hbm, ⟨13, _⟩ => ⟨S64x100, .bf16⟩
  | .hbm, ⟨14, _⟩ => ⟨S64x1, .f32⟩
  | .hbm, ⟨15, _⟩ => ⟨S6x800000, .f32⟩
  | .hbm, ⟨16, _⟩ => ⟨S1x1, .f32⟩
  | .hbm, ⟨17, _⟩ => ⟨S1x1, .f32⟩
  | .hbm, ⟨18, _⟩ => ⟨S3x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S4x1, .f32⟩
  | .hbm, ⟨32, _⟩ => ⟨S1x1, .f32⟩
  | .hbm, ⟨33, _⟩ => ⟨S3x1, .f32⟩
  | .hbm, ⟨34, _⟩ => ⟨S800000x6, .f32⟩
  | .local _ .vmem, ⟨0, _⟩ => ⟨S16384x3, .f32⟩
  | .local _ .vmem, ⟨1, _⟩ => ⟨S16384x3, .f32⟩
  | .local _ .vmem, ⟨2, _⟩ => ⟨S16384, .i32⟩
  | .local _ .vmem, ⟨3, _⟩ => ⟨S16384, .i32⟩
  | .local _ .vmem, ⟨4, _⟩ => ⟨S16384x3, .f32⟩
  | .local _ .vmem, ⟨5, _⟩ => ⟨S16384x3, .f32⟩
  | .local _ .vmem, ⟨6, _⟩ => ⟨S16384, .f32⟩
  | .local _ .vmem, ⟨7, _⟩ => ⟨S16384, .f32⟩
  | .local _ .vmem, ⟨8, _⟩ => ⟨S64x3, .f32⟩
  | .local _ .vmem, ⟨9, _⟩ => ⟨S3x64, .f32⟩
  | .local _ .vmem, ⟨10, _⟩ => ⟨S64x100, .bf16⟩
  | .local _ .vmem, ⟨11, _⟩ => ⟨S64x1, .f32⟩
  | .local _ .vmem, ⟨12, _⟩ => ⟨S64x1, .f32⟩
  | .local _ .vmem, ⟨13, _⟩ => ⟨S6x16384, .f32⟩
  | .local _ .vmem, ⟨14, _⟩ => ⟨S6x16384, .f32⟩
  | .local _ .vmem, ⟨15, _⟩ => ⟨S1x1, .f32⟩
  | .local _ .vmem, ⟨16, _⟩ => ⟨S1x1, .f32⟩
  | .local _ .vmem, ⟨17, _⟩ => ⟨S3x1, .f32⟩
  | .local _ .vmem, ⟨18, _⟩ => ⟨S6x16384, .f32⟩
  | .local _ .vmem, ⟨19, _⟩ => ⟨S6x16384, .f32⟩
  | .local _ .vmem, ⟨20, _⟩ => ⟨S16384, .f32⟩
  | .local _ .vmem, ⟨21, _⟩ => ⟨S16384, .f32⟩
  | .local _ .vmem, ⟨22, _⟩ => ⟨S3x1, .f32⟩
  | .local _ .vmem, ⟨23, _⟩ => ⟨S3x1, .f32⟩
  | .local _ .vmem, ⟨24, _⟩ => ⟨S16384x6, .f32⟩
  | .local _ .vmem, ⟨25, _⟩ => ⟨S16384x6, .f32⟩
  | _, _ => ⟨S800000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4_0 : Ref sig .tc := ⟨.hbm, 15, rfl⟩
abbrev main_call0_v4_1 : Ref sig .tc := ⟨.hbm, 16, rfl⟩
abbrev main_call0_v4_2 : Ref sig .tc := ⟨.hbm, 17, rfl⟩
abbrev main_call0_v4_3 : Ref sig .tc := ⟨.hbm, 18, rfl⟩
abbrev main_call0_v5 : Ref sig .tc := ⟨.hbm, 19, rfl⟩
abbrev main_call0_v6 : Ref sig .tc := ⟨.hbm, 20, rfl⟩
abbrev main_call0_cst : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_cst_0 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v0_0 : Ref sig .tc := ⟨.hbm, 31, rfl⟩
abbrev main_call0_v16 : Ref sig .tc := ⟨.hbm, 32, rfl⟩
abbrev main_call0_v17 : Ref sig .tc := ⟨.hbm, 33, rfl⟩
abbrev main_v0_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16384x6 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S800000x3 : Shape := ⟨2, ![800000, 3]⟩
abbrev S800000 : Shape := ⟨1, ![800000]⟩
abbrev S1x1 : Shape := ⟨2, ![1, 1]⟩
abbrev S3x64 : Shape := ⟨2, ![3, 64]⟩
abbrev S64 : Shape := ⟨1, ![64]⟩
abbrev S100x64 : Shape := ⟨2, ![100, 64]⟩
abbrev S64x1 : Shape := ⟨2, ![64, 1]⟩
abbrev S1 : Shape := ⟨1, ![1]⟩
abbrev S800000x1 : Shape := ⟨2, ![800000, 1]⟩
abbrev S_ : Shape := ⟨0, ![]⟩
abbrev S3x1 : Shape := ⟨2, ![3, 1]⟩
abbrev S800000x64 : Shape := ⟨2, ![800000, 64]⟩
abbrev S1x64 : Shape := ⟨2, ![1, 64]⟩
abbrev S3x800000 : Shape := ⟨2, ![3, 800000]⟩
abbrev S4x1 : Shape := ⟨2, ![4, 1]⟩
abbrev S1x3 : Shape := ⟨2, ![1, 3]⟩
abbrev S800000x6 : Shape := ⟨2, ![800000, 6]⟩

abbrev nBuf : Space → Nat
  | .hbm => 154
  | .vmem => 0
  | .smem => 0
  | _ => 0

abbrev hbmTy0_0 (i : Nat) : BufTy := match i % 128 with
  | 0 => ⟨S800000x3, .f32⟩
  | 1 => ⟨S800000x3, .f32⟩
  | 2 => ⟨S800000, .i32⟩
  | 3 => ⟨S800000, .i32⟩
  | 4 => ⟨S800000, .f32⟩
  | 5 => ⟨S1x1, .f32⟩
  | 6 => ⟨S3x64, .f32⟩
  | 7 => ⟨S64, .f32⟩
  | 8 => ⟨S100x64, .f32⟩
  | 9 => ⟨S64x1, .f32⟩
  | 10 => ⟨S1, .f32⟩
  | 11 => ⟨S800000x1, .f32⟩
  | 12 => ⟨S_, .f32⟩
  | 13 => ⟨S3x1, .f32⟩
  | 14 => ⟨S800000x64, .f32⟩
  | 15 => ⟨S1x64, .f32⟩
  | 16 => ⟨S800000x64, .f32⟩
  | 17 => ⟨S800000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x64, .f32⟩
  | 37 => ⟨S800000x64, .i1⟩
  | 38 => ⟨S_, .f32⟩
  | 39 => ⟨S800000x64, .f32⟩
  | 40 => ⟨S800000x64, .f32⟩
  | 41 => ⟨S800000x64, .f32⟩
  | 42 => ⟨S800000x64, .f32⟩
  | 43 => ⟨S800000x1, .f32⟩
  | 44 => ⟨S1x1, .f32⟩
  | 45 => ⟨S800000x1, .f32⟩
  | 46 => ⟨S800000x1, .f32⟩
  | 47 => ⟨S_, .f32⟩
  | 48 => ⟨S1x1, .f32⟩
  | 49 => ⟨S800000x1, .i32⟩
  | 50 => ⟨S1x1, .f32⟩
  | 51 => ⟨S800000x3, .f32⟩
  | 52 => ⟨S800000x1, .f32⟩
  | 53 => ⟨S800000x1, .f32⟩
  | 54 => ⟨S_, .f32⟩
  | 55 => ⟨S1x1, .f32⟩
  | 56 => ⟨S800000x1, .i32⟩
  | 57 => ⟨S1x1, .f32⟩
  | 58 => ⟨S_, .f32⟩
  | 59 => ⟨S1x1, .f32⟩
  | 60 => ⟨S1x1, .f32⟩
  | 61 => ⟨S1x1, .f32⟩
  | 62 => ⟨S800000x64, .f32⟩
  | 63 => ⟨S1x64, .f32⟩
  | 64 => ⟨S800000x64, .f32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x64, .f32⟩
  | 85 => ⟨S800000x64, .i1⟩
  | 86 => ⟨S_, .f32⟩
  | 87 => ⟨S800000x64, .f32⟩
  | 88 => ⟨S800000x64, .f32⟩
  | 89 => ⟨S800000x64, .f32⟩
  | 90 => ⟨S800000x64, .f32⟩
  | 91 => ⟨S_, .f32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S800000x64, .f32⟩
  | 98 => ⟨S800000x1, .f32⟩
  | 99 => ⟨S1x1, .f32⟩
  | 100 => ⟨S800000x1, .f32⟩
  | 101 => ⟨S800000x1, .f32⟩
  | 102 => ⟨S_, .f32⟩
  | 103 => ⟨S1x1, .f32⟩
  | 104 => ⟨S800000x1, .i32⟩
  | 105 => ⟨S1x1, .f32⟩
  | 106 => ⟨S_, .f32⟩
  | 107 => ⟨S1x1, .f32⟩
  | 108 => ⟨S_, .f32⟩
  | 109 => ⟨S_, .f32⟩
  | 110 => ⟨S_, .f32⟩
  | 111 => ⟨S1x1, .f32⟩
  | 112 => ⟨S1, .i32⟩
  | 113 => ⟨S_, .i32⟩
  | 114 => ⟨S800000x1, .i32⟩
  | 115 => ⟨S800000x1, .i1⟩
  | 116 => ⟨S1x1, .i32⟩
  | 117 => ⟨S800000x1, .i32⟩
  | 118 => ⟨S800000x1, .i1⟩
  | 119 => ⟨S800000x1, .i1⟩
  | 120 => ⟨S_, .i1⟩
  | 121 => ⟨S800000, .i1⟩
  | 122 => ⟨S800000x1, .f32⟩
  | 123 => ⟨S800000x1, .i1⟩
  | 124 => ⟨S_, .f32⟩
  | 125 => ⟨S800000x1, .f32⟩
  | 126 => ⟨S800000x1, .f32⟩
  | 127 => ⟨S800000x64, .f32⟩
  | _ => ⟨S800000x3, .f32⟩

abbrev hbmTy0_1 (i : Nat) : BufTy := match i % 128 with
  | 0 => ⟨S800000x64, .f32⟩
  | 1 => ⟨S800000x3, .f32⟩
  | 2 => ⟨S1x1, .f32⟩
  | 3 => ⟨S3x800000, .f32⟩
  | 4 => ⟨S3x1, .f32⟩
  | 5 => ⟨S4x1, .f32⟩
  | 6 => ⟨S1x1, .f32⟩
  | 7 => ⟨S1, .f32⟩
  | 8 => ⟨S3x1, .f32⟩
  | 9 => ⟨S800000x3, .f32⟩
  | 10 => ⟨S800000x3, .f32⟩
  | 11 => ⟨S_, .f32⟩
  | 12 => ⟨S800000x1, .f32⟩
  | 13 => ⟨S1x1, .f32⟩
  | 14 => ⟨S800000x3, .f32⟩
  | 15 => ⟨S800000x3, .f32⟩
  | 16 => ⟨S1x1, .f32⟩
  | 17 => ⟨S800000x3, .f32⟩
  | 18 => ⟨S800000x3, .f32⟩
  | 19 => ⟨S1x3, .f32⟩
  | 20 => ⟨S800000x3, .f32⟩
  | 21 => ⟨S1x3, .f32⟩
  | 22 => ⟨S800000x3, .f32⟩
  | 23 => ⟨S800000x3, .f32⟩
  | 24 => ⟨S800000x3, .f32⟩
  | 25 => ⟨S800000x6, .f32⟩
  | _ => ⟨S800000x3, .f32⟩

abbrev hbmTy (i : Nat) : BufTy := match i / 128 with
  | 0 => hbmTy0_0 i
  | 1 => hbmTy0_1 i
  | _ => ⟨S800000x3, .f32⟩

abbrev bufTy : (tb : Table) → Fin (tcTables nBuf tb) → BufTy
  | .hbm, ⟨i, _⟩ => hbmTy i
  | _, _ => ⟨S800000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_cst_3 : Ref sig .tc := ⟨.hbm, 91, rfl⟩
abbrev main_v32 : Ref sig .tc := ⟨.hbm, 92, rfl⟩
abbrev main_v33 : Ref sig .tc := ⟨.hbm, 93, rfl⟩
abbrev main_cst_4 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_5 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_cst_6 : Ref sig .tc := ⟨.hbm, 106, rfl⟩
abbrev main_v44 : Ref sig .tc := ⟨.hbm, 107, rfl⟩
abbrev main_cst_7 : Ref sig .tc := ⟨.hbm, 108, rfl⟩
abbrev main_v45 : Ref sig .tc := ⟨.hbm, 109, rfl⟩
abbrev main_cst_8 : Ref sig .tc := ⟨.hbm, 110, rfl⟩
abbrev main_v46 : Ref sig .tc := ⟨.hbm, 111, rfl⟩
abbrev main_c : Ref sig .tc := ⟨.hbm, 112, rfl⟩
abbrev main_c_9 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_c_10 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_11 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_12 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩

abbrev nD : Nat := 1
abbrev τ : Topo := Topo.v7x

variable {F : FTy → Type} [FloatOps F]
-- ==== Proof.Body.lean ====
/-
  The two kernels' bodies, each run once from any contents of its staging buffers, at any float values: what each leaves in
  every output buffer is named by the payload functions of the skeletons, over what was read. The first kernel resets its
  three accumulators at the first grid point and adds into them at every point, so it has one statement for the first point
  and one for the others.
-/
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.RegionsLoop
public import Idealize.ShloMosaic.Lib.Pipeline.ValueKit
public import Idealize.ShloMosaic.Lib.VecWindow
public import Idealize.ShloMosaic.Lib.Tactic
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
/-- The user resources: two copies of the pipeline library's own. -/
abbrev UU : Type := UR sig nD τ × UR sig nD τ
local notation "𝕄" => MT nD τ sig Unit (Elt F) ℕ UU ℕ
/-- The condition under which the first kernel resets its accumulators, as the program computes it. -/
abbrev first (i : grid0.Coords) : BitVec 1 := Scalar.cmpi .ne (Scalar.extui (Scalar.cmpi .eq (BitVec.ofNat 32 (i 0).val) 0#32) : BitVec 32) 0#32
/-- What the first kernel leaves in its block of six rows: the momenta, then the gradients. -/
def stOut (d0 : Vec F S16384x3 .f32) (d1 : Vec F S16384 .i32) (d2 : Vec F S16384x3 .f32) (d3 : Vec F S16384 .f32) (d4 : Vec F S64x3 .f32) (d5 : Vec F S3x64 .f32) (d6 : Vec F S64x100 .bf16) (d7 d8 : Vec F S64x1 .f32) : Vec F S6x16384 .f32 :=
  k0_pay13 (k0_pay6 d0 d4 d1 d6 d8) d7 d5 d2 d3
/-- The potential energy sum after a block, from the sum before it. -/
def stepE (i : grid0.Coords) (d0 : Vec F S16384x3 .f32) (d1 : Vec F S16384 .i32) (d4 : Vec F S64x3 .f32) (d6 : Vec F S64x100 .bf16) (d7 d8 : Vec F S64x1 .f32) (a : Vec F S1x1 .f32) : Vec F S1x1 .f32 :=
  k0_pay10 (k0_pay7 a) (k0_pay8 d0 d4 d1 d6 d8 d7) (Scalar.ofBits .f32 0x00000000#32) (k0_pay9 i)
/-- The kinetic sum after a block, from the sum before it. -/
def stepK (i : grid0.Coords) (d2 : Vec F S16384x3 .f32) (d3 : Vec F S16384 .f32) (a : Vec F S1x1 .f32) : Vec F S1x1 .f32 :=
  k0_pay14 (k0_pay5 i) d2 d3 a
/-- The three momentum sums after a block, from the sums before it. -/
def stepP (i : grid0.Coords) (d2 : Vec F S16384x3 .f32) (d3 : Vec F S16384 .f32) (a : Vec F S3x1 .f32) : Vec F S3x1 .f32 :=
  k0_pay1 (k0_pay5 i) (k0_pay12 d2 d3) a
/-- The first kernel's body at the first point: the accumulators restart from zero. -/
theorem body0_first (c : Dev nD) (i : grid0.Coords) (hi : first i = 1#1) (M0 : Memref sig .tc .vmem S16384x3 .f32) (h0 : M0.IsWhole) (M1 : Memref sig .tc .vmem S16384 .i32) (h1 : M1.IsWhole) (M2 : Memref sig .tc .vmem S16384x3 .f32) (h2 : M2.IsWhole) (M3 : Memref sig .tc .vmem S16384 .f32) (h3 : M3.IsWhole) (M4 : Memref sig .tc .vmem S64x3 .f32) (h4 : M4.IsWhole) (M5 : Memref sig .tc .vmem S3x64 .f32) (h5 : M5.IsWhole) (M6 : Memref sig .tc .vmem S64x100 .bf16) (h6 : M6.IsWhole) (M7 : Memref sig .tc .vmem S64x1 .f32) (h7 : M7.IsWhole) (M8 : Memref sig .tc .vmem S64x1 .f32) (h8 : M8.IsWhole) (M9 : Memref sig .tc .vmem S6x16384 .f32) (h9 : M9.IsWhole) (M10 : Memref sig .tc .vmem S1x1 .f32) (h10 : M10.IsWhole) (M11 : Memref sig .tc .vmem S1x1 .f32) (h11 : M11.IsWhole) (M12 : Memref sig .tc .vmem S3x1 .f32) (h12 : M12.IsWhole)
    (d0 : Vec F S16384x3 .f32) (d1 : Vec F S16384 .i32) (d2 : Vec F S16384x3 .f32) (d3 : Vec F S16384 .f32) (d4 : Vec F S64x3 .f32) (d5 : Vec F S3x64 .f32) (d6 : Vec F S64x100 .bf16) (d7 : Vec F S64x1 .f32) (d8 : Vec F S64x1 .f32) (K : PUnit → sProp 𝕄) :
    iprop(owns (c : Thread nD τ) M0 fullShare d0
        ∗ owns (c : Thread nD τ) M1 fullShare d1
        ∗ owns (c : Thread nD τ) M2 fullShare d2
        ∗ owns (c : Thread nD τ) M3 fullShare d3
        ∗ owns (c : Thread nD τ) M4 fullShare d4
        ∗ owns (c : Thread nD τ) M5 fullShare d5
        ∗ owns (c : Thread nD τ) M6 fullShare d6
        ∗ owns (c : Thread nD τ) M7 fullShare d7
        ∗ owns (c : Thread nD τ) M8 fullShare d8
        ∗ (∃ d, owns (c : Thread nD τ) M9 fullShare d)
        ∗ (∃ d, owns (c : Thread nD τ) M10 fullShare d)
        ∗ (∃ d, owns (c : Thread nD τ) M11 fullShare d)
        ∗ (∃ d, owns (c : Thread nD τ) M12 fullShare d)
        ∗ (iprop(owns (c : Thread nD τ) M0 fullShare d0
        ∗ owns (c : Thread nD τ) M1 fullShare d1
        ∗ owns (c : Thread nD τ) M2 fullShare d2
        ∗ owns (c : Thread nD τ) M3 fullShare d3
        ∗ owns (c : Thread nD τ) M4 fullShare d4
        ∗ owns (c : Thread nD τ) M5 fullShare d5
        ∗ owns (c : Thread nD τ) M6 fullShare d6
        ∗ owns (c : Thread nD τ) M7 fullShare d7
        ∗ owns (c : Thread nD τ) M8 fullShare d8
            ∗ owns (c : Thread nD τ) M9 fullShare (stOut d0 d1 d2 d3 d4 d5 d6 d7 d8)
            ∗ owns (c : Thread nD τ) M10 fullShare (stepE i d0 d1 d4 d6 d7 d8 k0_pay2)
            ∗ owns (c : Thread nD τ) M11 fullShare (stepK i d2 d3 k0_pay3)
            ∗ owns (c : Thread nD τ) M12 fullShare (stepP i d2 d3 k0_pay4)) -∗ K ⟨⟩))
      ⊢ wp frame (wpE (defs₀ (F := F)) Variants.none c none) Set.univ (cc0__pass1_body i M0 h0 M1 h1 M2 h2 M3 h3 M4 h4 M5 h5 M6 h6 M7 h7 M8 h8 M9 h9 M10 h10 M11 h11 M12 h12) K := by
  rw [cc0__pass1_body_eq_skeleton]; unfold cc0__pass1_body_skel
  simp only [k0_part1_eq_skeleton, k0_part2_eq_skeleton]
  unfold k0_part1_skel k0_part2_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%a10, %f10, -, H10⟩, ⟨%a11, %f11, -, H11⟩, ⟨%a12, %f12, -, H12⟩, Hk⟩
  sl_exec
  sl_step
  have r0 := (View.readAt_full M0.view f0 inb_S16384x3_S16384x3_0_0).trans e0
  have r1 := (View.readAt_full M1.view f1 inb_S16384_S16384_0).trans e1
  have r2 := (View.readAt_full M2.view f2 inb_S16384x3_S16384x3_0_0).trans e2
  have r3 := (View.readAt_full M3.view f3 inb_S16384_S16384_0).trans e3
  have r4 := (View.readAt_full M4.view f4 inb_S64x3_S64x3_0_0).trans e4
  have r5 := (View.readAt_full M5.view f5 inb_S3x64_S3x64_0_0).trans e5
  have r6 := (View.readAt_full M6.view f6 inb_S64x100_S64x100_0_0).trans e6
  have r7 := (View.readAt_full M7.view f7 inb_S64x1_S64x1_0_0).trans e7
  have r8 := (View.readAt_full M8.view f8 inb_S64x1_S64x1_0_0).trans e8
  have r10 : body0_first.sl.v32 (F := F) c M10 = k0_pay2 := View.readCov_full (Val := Elt F) M10.view inb_S1x1_S1x1_0_0 inb_S1x1_S1x1_0_0 (k0_pay2 (F := F)) []
  have r11 : body0_first.sl.v62 (F := F) c M11 = k0_pay3 := View.readCov_full (Val := Elt F) M11.view inb_S1x1_S1x1_0_0 inb_S1x1_S1x1_0_0 (k0_pay3 (F := F)) []
  have r12 : body0_first.sl.v76 (F := F) c M12 = k0_pay4 := View.readCov_full (Val := Elt F) M12.view inb_S3x1_S3x1_0_0 inb_S3x1_S3x1_0_0 (k0_pay4 (F := F)) []
  dsimp only at r0 r1 r2 r3 r4 r5 r6 r7 r8
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; refine (View.read_writes_full _ _ _ _ _).trans ?_; dsimp only; rw [r0, r4, r1, r6, r8, r7, r5, r2, r3]; rfl
  isplitl [H10]; · iexists _; isplitr; swap; (· iexact H10); ipureintro; refine (View.read_writes_full _ _ _ _ _).trans ?_; dsimp only; rw [r0, r4, r1, r6, r8, r7, r10]; rfl
  isplitl [H11]; · iexists _; isplitr; swap; (· iexact H11); ipureintro; refine (View.read_writes_full _ _ _ _ _).trans ?_; dsimp only; rw [r2, r3, r11]; rfl
  iexists _; isplitr; swap; (· iexact H12); ipureintro; refine (View.read_writes_full _ _ _ _ _).trans ?_; dsimp only; rw [r2, r3, r12]; rfl

/-- The first kernel's body at a later point: the accumulators continue from what they held. -/
theorem body0_later (c : Dev nD) (i : grid0.Coords) (hi : ¬ first i = 1#1) (M0 : Memref sig .tc .vmem S16384x3 .f32) (h0 : M0.IsWhole) (M1 : Memref sig .tc .vmem S16384 .i32) (h1 : M1.IsWhole) (M2 : Memref sig .tc .vmem S16384x3 .f32) (h2 : M2.IsWhole) (M3 : Memref sig .tc .vmem S16384 .f32) (h3 : M3.IsWhole) (M4 : Memref sig .tc .vmem S64x3 .f32) (h4 : M4.IsWhole) (M5 : Memref sig .tc .vmem S3x64 .f32) (h5 : M5.IsWhole) (M6 : Memref sig .tc .vmem S64x100 .bf16) (h6 : M6.IsWhole) (M7 : Memref sig .tc .vmem S64x1 .f32) (h7 : M7.IsWhole) (M8 : Memref sig .tc .vmem S64x1 .f32) (h8 : M8.IsWhole) (M9 : Memref sig .tc .vmem S6x16384 .f32) (h9 : M9.IsWhole) (M10 : Memref sig .tc .vmem S1x1 .f32) (h10 : M10.IsWhole) (M11 : Memref sig .tc .vmem S1x1 .f32) (h11 : M11.IsWhole) (M12 : Memref sig .tc .vmem S3x1 .f32) (h12 : M12.IsWhole)
    (d0 : Vec F S16384x3 .f32) (d1 : Vec F S16384 .i32) (d2 : Vec F S16384x3 .f32) (d3 : Vec F S16384 .f32) (d4 : Vec F S64x3 .f32) (d5 : Vec F S3x64 .f32) (d6 : Vec F S64x100 .bf16) (d7 : Vec F S64x1 .f32) (d8 : Vec F S64x1 .f32) (a10 : Vec F S1x1 .f32) (a11 : Vec F S1x1 .f32) (a12 : Vec F S3x1 .f32) (K : PUnit → sProp 𝕄) :
    iprop(owns (c : Thread nD τ) M0 fullShare d0
        ∗ owns (c : Thread nD τ) M1 fullShare d1
        ∗ owns (c : Thread nD τ) M2 fullShare d2
        ∗ owns (c : Thread nD τ) M3 fullShare d3
        ∗ owns (c : Thread nD τ) M4 fullShare d4
        ∗ owns (c : Thread nD τ) M5 fullShare d5
        ∗ owns (c : Thread nD τ) M6 fullShare d6
        ∗ owns (c : Thread nD τ) M7 fullShare d7
        ∗ owns (c : Thread nD τ) M8 fullShare d8
        ∗ (∃ d, owns (c : Thread nD τ) M9 fullShare d)
        ∗ owns (c : Thread nD τ) M10 fullShare a10
        ∗ owns (c : Thread nD τ) M11 fullShare a11
        ∗ owns (c : Thread nD τ) M12 fullShare a12
        ∗ (iprop(owns (c : Thread nD τ) M0 fullShare d0
        ∗ owns (c : Thread nD τ) M1 fullShare d1
        ∗ owns (c : Thread nD τ) M2 fullShare d2
        ∗ owns (c : Thread nD τ) M3 fullShare d3
        ∗ owns (c : Thread nD τ) M4 fullShare d4
        ∗ owns (c : Thread nD τ) M5 fullShare d5
        ∗ owns (c : Thread nD τ) M6 fullShare d6
        ∗ owns (c : Thread nD τ) M7 fullShare d7
        ∗ owns (c : Thread nD τ) M8 fullShare d8
            ∗ owns (c : Thread nD τ) M9 fullShare (stOut d0 d1 d2 d3 d4 d5 d6 d7 d8)
            ∗ owns (c : Thread nD τ) M10 fullShare (stepE i d0 d1 d4 d6 d7 d8 a10)
            ∗ owns (c : Thread nD τ) M11 fullShare (stepK i d2 d3 a11)
            ∗ owns (c : Thread nD τ) M12 fullShare (stepP i d2 d3 a12)) -∗ K ⟨⟩))
      ⊢ wp frame (wpE (defs₀ (F := F)) Variants.none c none) Set.univ (cc0__pass1_body i M0 h0 M1 h1 M2 h2 M3 h3 M4 h4 M5 h5 M6 h6 M7 h7 M8 h8 M9 h9 M10 h10 M11 h11 M12 h12) K := by
  rw [cc0__pass1_body_eq_skeleton]; unfold cc0__pass1_body_skel
  simp only [k0_part1_eq_skeleton, k0_part2_eq_skeleton]
  unfold k0_part1_skel k0_part2_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%f10, %e10, H10⟩, ⟨%f11, %e11, H11⟩, ⟨%f12, %e12, H12⟩, Hk⟩
  sl_exec
  sl_step
  have r0 := (View.readAt_full M0.view f0 inb_S16384x3_S16384x3_0_0).trans e0
  have r1 := (View.readAt_full M1.view f1 inb_S16384_S16384_0).trans e1
  have r2 := (View.readAt_full M2.view f2 inb_S16384x3_S16384x3_0_0).trans e2
  have r3 := (View.readAt_full M3.view f3 inb_S16384_S16384_0).trans e3
  have r4 := (View.readAt_full M4.view f4 inb_S64x3_S64x3_0_0).trans e4
  have r5 := (View.readAt_full M5.view f5 inb_S3x64_S3x64_0_0).trans e5
  have r6 := (View.readAt_full M6.view f6 inb_S64x100_S64x100_0_0).trans e6
  have r7 := (View.readAt_full M7.view f7 inb_S64x1_S64x1_0_0).trans e7
  have r8 := (View.readAt_full M8.view f8 inb_S64x1_S64x1_0_0).trans e8
  have r10 := (View.readAt_full M10.view f10 inb_S1x1_S1x1_0_0).trans e10
  have r11 := (View.readAt_full M11.view f11 inb_S1x1_S1x1_0_0).trans e11
  have r12 := (View.readAt_full M12.view f12 inb_S3x1_S3x1_0_0).trans e12
  dsimp only at r0 r1 r2 r3 r4 r5 r6 r7 r8 r10 r11 r12
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; refine (View.read_writes_full _ _ _ _ _).trans ?_; dsimp only; rw [r0, r4, r1, r6, r8, r7, r5, r2, r3]; rfl
  isplitl [H10]; · iexists _; isplitr; swap; (· iexact H10); ipureintro; refine (View.read_writes_full _ _ _ _ _).trans ?_; dsimp only; rw [r0, r4, r1, r6, r8, r7, r10]; rfl
  isplitl [H11]; · iexists _; isplitr; swap; (· iexact H11); ipureintro; refine (View.read_writes_full _ _ _ _ _).trans ?_; dsimp only; rw [r2, r3, r11]; rfl
  iexists _; isplitr; swap; (· iexact H12); ipureintro; refine (View.read_writes_full _ _ _ _ _).trans ?_; dsimp only; rw [r2, r3, r12]; rfl

/-- The second kernel's body: its output block is the payload of the four blocks read. -/
theorem body1 (c : Dev nD) (i : grid1.Coords) (M0 : Memref sig .tc .vmem S6x16384 .f32) (h0 : M0.IsWhole) (M1 : Memref sig .tc .vmem S16384 .f32) (h1 : M1.IsWhole)
    (M2 : Memref sig .tc .vmem S3x1 .f32) (h2 : M2.IsWhole) (M3 : Memref sig .tc .vmem S3x1 .f32) (h3 : M3.IsWhole) (M4 : Memref sig .tc .vmem S16384x6 .f32) (h4 : M4.IsWhole)
    (d0 : Vec F S6x16384 .f32) (d1 : Vec F S16384 .f32) (d2 : Vec F S3x1 .f32) (d3 : Vec F S3x1 .f32) (K : PUnit → sProp 𝕄) :
    iprop(owns (c : Thread nD τ) M0 fullShare d0 ∗ owns (c : Thread nD τ) M1 fullShare d1 ∗ owns (c : Thread nD τ) M2 fullShare d2 ∗ owns (c : Thread nD τ) M3 fullShare d3
        ∗ (∃ d, owns (c : Thread nD τ) M4 fullShare d)
        ∗ (iprop(owns (c : Thread nD τ) M0 fullShare d0 ∗ owns (c : Thread nD τ) M1 fullShare d1 ∗ owns (c : Thread nD τ) M2 fullShare d2
            ∗ owns (c : Thread nD τ) M3 fullShare d3 ∗ owns (c : Thread nD τ) M4 fullShare (k1_pay1 d2 d3 d1 d0)) -∗ K ⟨⟩))
      ⊢ wp frame (wpE (defs₀ (F := F)) Variants.none c none) Set.univ (cc1__pass2_body i M0 h0 M1 h1 M2 h2 M3 h3 M4 h4) K := by
  rw [cc1__pass2_body_eq_skeleton]; unfold cc1__pass2_body_skel
  unfold owns
  iintro ⟨⟨%f0, %e0, H0⟩, ⟨%f1, %e1, H1⟩, ⟨%f2, %e2, H2⟩, ⟨%f3, %e3, H3⟩, ⟨%d4, %f4, -, H4⟩, Hk⟩
  sl_exec
  sl_step
  have r0 := (View.readAt_full M0.view f0 inb_S6x16384_S6x16384_0_0).trans e0
  have r1 := (View.readAt_full M1.view f1 inb_S16384_S16384_0).trans e1
  have r2 := (View.readAt_full M2.view f2 inb_S3x1_S3x1_0_0).trans e2
  have r3 := (View.readAt_full M3.view f3 inb_S3x1_S3x1_0_0).trans e3
  dsimp only at r0 r1 r2 r3
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  iexists _; isplitr; swap; (· iexact H4)
  ipureintro
  refine (View.read_writes_full _ _ _ _ _).trans ?_; dsimp only; rw [r2, r3, r1, r0]

end Cert.KernelIdeal.Hand
end
-- ==== Proof.Launch.lean ====
/-
  The launch, at any float values. The second kernel reads arrays the first one wrote, and at abstract values those
  contents are decided by the run only, so each kernel region is packaged as a host segment of the launch library whose
  states quantify over what the first region left. The regions' cells are funded from a second copy of the library's
  resources, carried in the first state.

  The run is stated for any description of what the two bodies leave (`af0`, `af1`) and any choice of windows about which
  nothing is said (`fgt0`, `fgt1`): every argument is unchanged, every semaphore is zero, and each result is the host
  operations' or the second kernel's own, from arrays that are as described.
-/
module

public import proofs.«01_k».proof.Proof.Body
public import proofs.«01_k».proof.Proof.Gen.KernelIdeal.Regions

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ UU ℕ

/-- Contents of every buffer of a core. -/
abbrev Val1 (F : FTy → Type) (c : Dev nD) : Type := (b : Ref sig .tc) → Buf (Elt F) ((c : Thread nD τ).loc b)

/-- What a kernel's body leaves in its windows' staging buffers, at every point. -/
abbrev Aft (F : FTy → Type) (cfg : Cfg sig Λ₀) : Type := (w : Fin cfg.W) → Fin cfg.N → (cfg.win w).block.Idx → Elt F (cfg.win w).elt

/-- The first region's proof data from entry contents `V`. -/
def dat0 (c : Dev nD) (V : Val1 F c) (af : Aft F cfg0) : Dat τ (Elt F) Unit ℕ UU ℕ cfg0 c where
  A w := V (Pipeline.arrRef spec0 w)
  after := af
  Φ _ := Pipeline.scopedRest (Ix := Unit) (Name := ℕ) (U := UU) (Lvl := ℕ) (Val := Elt F) spec0 c
  q _ := fullShare
  owed _ := 0

/-- The second region's proof data from entry contents `V`. -/
def dat1 (c : Dev nD) (V : Val1 F c) (af : Aft F cfg1) : Dat τ (Elt F) Unit ℕ UU ℕ cfg1 c where
  A w := V (Pipeline.arrRef spec1 w)
  after := af
  Φ _ := Pipeline.scopedRest (Ix := Unit) (Name := ℕ) (U := UU) (Lvl := ℕ) (Val := Elt F) spec1 c
  q _ := fullShare
  owed _ := 0

/-- Both regions' proof data from the same entry contents (each is used at its own). -/
def pdats (V : (c : Dev nD) → Val1 F c) (af0 : Dev nD → Aft F cfg0) (af1 : Dev nD → Aft F cfg1) :
    (p : Fin 2) → (c : Dev nD) → Dat τ (Elt F) Unit ℕ UU ℕ (Pipeline.pin (pcfgs (F := F)) adm p) c
  | ⟨0, _⟩ => fun c => dat0 c (V c) (af0 c)
  | ⟨1, _⟩ => fun c => dat1 c (V c) (af1 c)

/-- The same as relations, saying nothing of the marked windows. -/
def rdats (V : (c : Dev nD) → Val1 F c) (af0 : Dev nD → Aft F cfg0) (af1 : Dev nD → Aft F cfg1) (fgt0 : Fin cfg0.W → Bool) (fgt1 : Fin cfg1.W → Bool) :
    (p : Fin 2) → (c : Dev nD) → RDat τ (Elt F) Unit ℕ UU ℕ (Pipeline.pin (pcfgs (F := F)) adm p) c
  | ⟨0, _⟩ => fun c => (dat0 c (V c) (af0 c)).toRForget fgt0
  | ⟨1, _⟩ => fun c => (dat1 c (V c) (af1 c)).toRForget fgt1

/-- No core owes another anything: no level is assigned. -/
abbrev L : GSem nD τ sig → Finset Unit := fun _ => ∅
/-- The levels, all zero. -/
abbrev lv : GSem nD τ sig → Unit → ℕ := fun _ _ => 0

/-- The core owes nothing. -/
abbrev O (c : Dev nD) : sProp 𝕄 := iprop(∃ W, owes (c : Thread nD τ) (0 : CellTallies nD τ sig Unit) W)

/-- One pipeline's cells and duty tokens, in the second copy of the library's resources. -/
abbrev Gh (p : Fin 2) (c : Dev nD) : sProp 𝕄 :=
  iprop(Pipeline.cellsGhost (Pipeline.pin (pcfgs (F := F)) adm) embR p c ∗ Pipeline.toksInit (Pipeline.pin (pcfgs (F := F)) adm) embR p c)

/-- Arrays at some contents they may hold, opened. -/
theorem arraysAt_open {cfg : Cfg sig Λ₀} {c : Dev nD} (rd : RDat τ (Elt F) Unit ℕ UU ℕ cfg c) (n : ℕ) :
    (rd.arraysAt n : sProp 𝕄) ⊢ iprop(∃ A, ⌜∀ w, rd.ArrAt w n (A w)⌝ ∗ rd.arrays A) := by
  unfold RDat.arraysAt
  iintro Ha
  ihave Ha' := (BI.bigSep_exists_pi Finset.univ (fun w X => iprop(⌜rd.ArrAt w n X⌝
      ∗ (cfg.win w).arr.view.loc (c.tc : Thread nD τ) ↦[(cfg.win w).arr.view.set]{rd.share w} X))) $$ Ha
  icases Ha' with ⟨%A, Ha⟩
  ihave Ha2 := (BI.bigSep_pure_sep Finset.univ (fun w => rd.ArrAt w n (A w))
      (fun w => (cfg.win w).arr.view.loc (c.tc : Thread nD τ) ↦[(cfg.win w).arr.view.set]{rd.share w} A w)) $$ Ha
  icases Ha2 with ⟨%h, Ha⟩
  iexists A
  isplitr; · ipureintro; exact fun w => h w (Finset.mem_univ w)
  unfold RDat.arrays; iexact Ha

/-- Contents that are as given at distinct named buffers and unchanged elsewhere. -/
theorem exists_val (c : Dev nD) {W : ℕ} (ref : Fin W → Ref sig .tc) (hinj : Function.Injective ref) (A : (w : Fin W) → Buf (Elt F) ((c : Thread nD τ).loc (ref w)))
    (V : Val1 F c) : ∃ Vp : Val1 F c, (∀ w, Vp (ref w) = A w) ∧ ∀ b, b ∉ Finset.univ.image ref → Vp b = V b := by
  classical
  refine ⟨fun b => if h : ∃ w, ref w = b then h.choose_spec ▸ A h.choose else V b, fun w => ?_, fun b hb => ?_⟩
  · have h : ∃ w', ref w' = ref w := ⟨w, rfl⟩
    have aux : ∀ (w' : Fin W) (e : ref w' = ref w), (e ▸ A w' : Buf (Elt F) ((c : Thread nD τ).loc (ref w))) = A w := fun w' e => by
      obtain rfl := hinj e; rfl
    dsimp only; rw [dif_pos h]; exact aux _ _
  · dsimp only; rw [dif_neg]; rintro ⟨w, rfl⟩; exact hb (Finset.mem_image.mpr ⟨w, Finset.mem_univ w, rfl⟩)

set_option backward.isDefEq.respectTransparency.types false in
/-- The first region over the thread state: every unscoped buffer at `V`, something riding along, nothing owed. It leaves
    the buffers at any contents `Vp` allowed of what its arrays may then hold. -/
def reg0 (V : (c : Dev nD) → Val1 F c) (af0 : Dev nD → Aft F cfg0) (af1 : Dev nD → Aft F cfg1) (fgt0 : Fin cfg0.W → Bool) (fgt1 : Fin cfg1.W → Bool)
    (hb : ∀ c, BodyObligationLoose (dat0 c (V c) (af0 c)) (defs₀ (F := F)) Variants.none () Set.univ fgt0)
    (R : Dev nD → sProp 𝕄) : Pipeline.RDat.RegionSeg (pcfgs (F := F)) adm (rdats V af0 af1 fgt0 fgt1) () defs₀ Variants.none L lv 0 where
  win := launch0.win.to₀
  block_pos := launch0.block_pos
  stage_whole := launch0.stage_whole
  K := PEmpty
  osem k := k.elim
  ho := Pipeline.OwnSemFacts.none _
  hbody c := (hb c).toRForget
  hwaits := Pipeline.RDat.hwaits_of_owed_zero _ _ _ _ L lv 0 fun _ _ => rfl
  pre c := iprop(unscopedBufs c (V c) ∗ R c ∗ O c)
  post c := iprop(∃ Vp : Val1 F c, ⌜(∀ w, ((dat0 c (V c) (af0 c)).toRForget fgt0).ArrAt w cfg0.N (Vp (Pipeline.arrRef spec0 w)))
      ∧ ∀ b, b ∉ Finset.univ.image (Pipeline.arrRef spec0) → Vp b = V c b⌝ ∗ unscopedBufs c Vp ∗ R c ∗ O c)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.RDat.arrays_of_unscopedBufs (p := 0) (pcfgs (F := F)) adm (rdats V af0 af1 fgt0 fgt1) launch0.win launch0.arr_whole c
      ((rdats V af0 af1 fgt0 fgt1 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rdats V af0 af1 fgt0 fgt1 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats V af0 af1 fgt0 fgt1 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    iintro ⟨Ha, HO, -, Hrest, HR⟩
    ihave Ha := (arraysAt_open (rdats V af0 af1 fgt0 fgt1 0 c) _) $$ Ha
    icases Ha with ⟨%A, %hA, Ha⟩
    obtain ⟨Vp, h1, h2⟩ := exists_val c (Pipeline.arrRef spec0) launch0.win.arr_inj A (V c)
    have hjoin := Pipeline.unscopedBufs_of_arrays (p := 0) (pcfgs (F := F)) adm (Ix := Unit) (Name := ℕ) (U := UU) (Lvl := ℕ) launch0.win launch0.arr_whole c
      (pdats V af0 af1) ((pdats V af0 af1 0 c).share_full fun _ => rfl) (V c) Vp A (fun w => (h1 w).symm) h2
    imodintro
    iexists Vp
    isplitr; · ipureintro; exact ⟨fun w => by rw [h1 w]; exact hA w, h2⟩
    isplitl [Ha Hrest]
    · iapply hjoin
      isplitl [Ha]; · iapply (show (rdats V af0 af1 fgt0 fgt1 0 c).arrays A ⊢ ((pdats V af0 af1 0 c).arrays A : sProp 𝕄) from .rfl); iexact Ha
      iexact Hrest
    isplitl [HR]; · iexact HR
    unfold Pipeline.RDat.owesAt Pipeline.owesWithin
    icases HO with ⟨%W, -, HO⟩; iexists W; iexact HO

set_option backward.isDefEq.respectTransparency.types false in
/-- The second region over the thread state: every unscoped buffer at `V`, something riding along, nothing owed. It leaves
    the buffers at any contents `Vp` allowed of what its arrays may then hold. -/
def reg1 (V : (c : Dev nD) → Val1 F c) (af0 : Dev nD → Aft F cfg0) (af1 : Dev nD → Aft F cfg1) (fgt0 : Fin cfg0.W → Bool) (fgt1 : Fin cfg1.W → Bool)
    (hb : ∀ c, BodyObligationLoose (dat1 c (V c) (af1 c)) (defs₀ (F := F)) Variants.none () Set.univ fgt1)
    (R : Dev nD → sProp 𝕄) : Pipeline.RDat.RegionSeg (pcfgs (F := F)) adm (rdats V af0 af1 fgt0 fgt1) () defs₀ Variants.none L lv 1 where
  win := launch1.win.to₀
  block_pos := launch1.block_pos
  stage_whole := launch1.stage_whole
  K := PEmpty
  osem k := k.elim
  ho := Pipeline.OwnSemFacts.none _
  hbody c := (hb c).toRForget
  hwaits := Pipeline.RDat.hwaits_of_owed_zero _ _ _ _ L lv 1 fun _ _ => rfl
  pre c := iprop(unscopedBufs c (V c) ∗ R c ∗ O c)
  post c := iprop(∃ Vp : Val1 F c, ⌜(∀ w, ((dat1 c (V c) (af1 c)).toRForget fgt1).ArrAt w cfg1.N (Vp (Pipeline.arrRef spec1 w)))
      ∧ ∀ b, b ∉ Finset.univ.image (Pipeline.arrRef spec1) → Vp b = V c b⌝ ∗ unscopedBufs c Vp ∗ R c ∗ O c)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.RDat.arrays_of_unscopedBufs (p := 1) (pcfgs (F := F)) adm (rdats V af0 af1 fgt0 fgt1) launch1.win launch1.arr_whole c
      ((rdats V af0 af1 fgt0 fgt1 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rdats V af0 af1 fgt0 fgt1 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (rdats V af0 af1 fgt0 fgt1 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    iintro ⟨Ha, HO, -, Hrest, HR⟩
    ihave Ha := (arraysAt_open (rdats V af0 af1 fgt0 fgt1 1 c) _) $$ Ha
    icases Ha with ⟨%A, %hA, Ha⟩
    obtain ⟨Vp, h1, h2⟩ := exists_val c (Pipeline.arrRef spec1) launch1.win.arr_inj A (V c)
    have hjoin := Pipeline.unscopedBufs_of_arrays (p := 1) (pcfgs (F := F)) adm (Ix := Unit) (Name := ℕ) (U := UU) (Lvl := ℕ) launch1.win launch1.arr_whole c
      (pdats V af0 af1) ((pdats V af0 af1 1 c).share_full fun _ => rfl) (V c) Vp A (fun w => (h1 w).symm) h2
    imodintro
    iexists Vp
    isplitr; · ipureintro; exact ⟨fun w => by rw [h1 w]; exact hA w, h2⟩
    isplitl [Ha Hrest]
    · iapply hjoin
      isplitl [Ha]; · iapply (show (rdats V af0 af1 fgt0 fgt1 1 c).arrays A ⊢ ((pdats V af0 af1 1 c).arrays A : sProp 𝕄) from .rfl); iexact Ha
      iexact Hrest
    isplitl [HR]; · iexact HR
    unfold Pipeline.RDat.owesAt Pipeline.owesWithin
    icases HO with ⟨%W, -, HO⟩; iexists W; iexact HO

/-- A region as a host segment: its ghost state, in the second copy of the library's resources, is part of the state it
    starts from. -/
def regSeg (rd : (p : Fin 2) → (c : Dev nD) → RDat τ (Elt F) Unit ℕ UU ℕ (Pipeline.pin (pcfgs (F := F)) adm p) c) (p : Fin 2)
    (R : Pipeline.RDat.RegionSeg (pcfgs (F := F)) adm rd () defs₀ Variants.none L lv p) :
    HostSeg (Ix := Unit) (Name := ℕ) (U := UU) (Lvl := ℕ) (pcfgs (F := F)) defs₀ Variants.none L lv where
  prog := Prog.lift (.customCall (Pipeline.entry p) ())
  pre c := iprop(R.pre c ∗ Gh p c)
  post := R.post
  run c {β} k K := by
    have h := Pipeline.RDat.RegionSeg.wp (pcfgs (F := F)) adm rd () cellOf_inj embR defs₀ Variants.none L lv R c none (fun _ h => nomatch h) k K
    refine BIBase.Entails.trans ?_ h
    iintro ⟨Hk, Hb, ⟨Hp, Hg, Ht⟩, Hl⟩
    isplitl [Hk]; · iexact Hk
    isplitl [Hb]; · iexact Hb
    isplitl [Hp]; · iexact Hp
    isplitl [Hl]; · iexact Hl
    isplitl [Hg] <;> iassumption

/-- A family of segments with one program is a segment between the unions of their states. -/
def exSeg {X : Type} (prog : Prog (TpuEff nD τ sig (Elt F) (Pipeline.Sig Λ₀ (Fin 2) fun p => (pcfgs (F := F) p).Adm) .tc) PUnit)
    (H : X → HostSeg (Ix := Unit) (Name := ℕ) (U := UU) (Lvl := ℕ) (pcfgs (F := F)) defs₀ Variants.none L lv) (hp : ∀ x, (H x).prog = prog) :
    HostSeg (Ix := Unit) (Name := ℕ) (U := UU) (Lvl := ℕ) (pcfgs (F := F)) defs₀ Variants.none L lv where
  prog := prog
  pre c := iprop(∃ x, (H x).pre c)
  post c := iprop(∃ x, (H x).post c)
  run c {β} k K := by
    iintro ⟨Hk, Hb, ⟨%x, Hp⟩, Hl⟩
    have h := (H x).run c k K
    rw [hp x] at h
    iapply h
    isplitl [Hk]
    · iintro ⟨Hb, Hq⟩; iapply Hk
      isplitl [Hb]; · iexact Hb
      iexists x; iexact Hq
    isplitl [Hb]; · iexact Hb
    isplitl [Hp] <;> iassumption

end Cert.KernelIdeal.Hand

end
-- ==== Proof.Run.lean ====
/-
  The run of the kernel's whole program at any float values, from the two regions' body obligations.
-/
module

public import proofs.«01_k».proof.Proof.Launch
public import proofs.«01_k».proof.Proof.Gen.KernelIdeal.Regions

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ UU ℕ

variable (m : (ℓ : Loc nD τ sig) → Buf (Elt F) ℓ)

/-- The contents at the first region's entry. -/
abbrev W1 (c : Dev nD) : Val1 F c := fun b => V1 m c b
/-- The contents at the second region's entry, over what the first region left. -/
abbrev W3 (outs : Outs (F := F)) (c : Dev nD) : Val1 F c := fun b => V3 m outs c b

/-- What is known of the arrays the first region left: those spoken of are as described. -/
def Left0 (af0 : Dev nD → Aft F cfg0) (fgt0 : Fin cfg0.W → Bool) (outs : Outs (F := F)) (c : Dev nD) : Prop :=
  (fgt0 9 = false → outs 2 main_call0_v4_0 c = (dat0 c (W1 m c) (af0 c)).arrAt 9 cfg0.N)
  ∧ (fgt0 10 = false → outs 2 main_call0_v4_1 c = (dat0 c (W1 m c) (af0 c)).arrAt 10 cfg0.N)
  ∧ (fgt0 11 = false → outs 2 main_call0_v4_2 c = (dat0 c (W1 m c) (af0 c)).arrAt 11 cfg0.N)
  ∧ (fgt0 12 = false → outs 2 main_call0_v4_3 c = (dat0 c (W1 m c) (af0 c)).arrAt 12 cfg0.N)

/-- Contents left by the first region, from one core's contents. -/
theorem exists_outs (c : Dev nD) (Vp : Val1 F c) : ∃ outs : Outs (F := F), ∀ k b, outs k b c = Vp b :=
  ⟨fun _ b c' => if h : c' = c then h ▸ Vp b else fun _ => Classical.arbitrary _, fun _ _ => by dsimp only; rw [dif_pos rfl]⟩

/-- After the first region the buffers are the entry contents but for its four outputs. -/
theorem V2_eq (c : Dev nD) (Vp : Val1 F c) (outs : Outs (F := F)) (ho : ∀ k b, outs k b c = Vp b)
    (h : ∀ b, b ∉ ([main_call0_v4_0, main_call0_v4_1, main_call0_v4_2, main_call0_v4_3] : List (Ref sig .tc)) → Vp b = W1 m c b) (b : Ref sig .tc) :
    V2 m outs c b = Vp b := by
  by_cases hb : b ∈ ([main_call0_v4_0, main_call0_v4_1, main_call0_v4_2, main_call0_v4_3] : List (Ref sig .tc))
  · have e0 : V2 m outs c main_call0_v4_0 = Vp main_call0_v4_0 := by
      simp only [V2, Function.update_of_ne (StableHlo.devRef_ne_of_ne (by decide) : (Proc.devRef .tc main_call0_v4_0 : DevRef τ sig) ≠ Proc.devRef .tc main_call0_v4_3),
        Function.update_of_ne (StableHlo.devRef_ne_of_ne (by decide) : (Proc.devRef .tc main_call0_v4_0 : DevRef τ sig) ≠ Proc.devRef .tc main_call0_v4_2),
        Function.update_of_ne (StableHlo.devRef_ne_of_ne (by decide) : (Proc.devRef .tc main_call0_v4_0 : DevRef τ sig) ≠ Proc.devRef .tc main_call0_v4_1),
        Function.update_self, ho]
    have e1 : V2 m outs c main_call0_v4_1 = Vp main_call0_v4_1 := by
      simp only [V2, Function.update_of_ne (StableHlo.devRef_ne_of_ne (by decide) : (Proc.devRef .tc main_call0_v4_1 : DevRef τ sig) ≠ Proc.devRef .tc main_call0_v4_3),
        Function.update_of_ne (StableHlo.devRef_ne_of_ne (by decide) : (Proc.devRef .tc main_call0_v4_1 : DevRef τ sig) ≠ Proc.devRef .tc main_call0_v4_2),
        Function.update_self, ho]
    have e2 : V2 m outs c main_call0_v4_2 = Vp main_call0_v4_2 := by
      simp only [V2, Function.update_of_ne (StableHlo.devRef_ne_of_ne (by decide) : (Proc.devRef .tc main_call0_v4_2 : DevRef τ sig) ≠ Proc.devRef .tc main_call0_v4_3),
        Function.update_self, ho]
    have e3 : V2 m outs c main_call0_v4_3 = Vp main_call0_v4_3 := by simp only [V2, Function.update_self, ho]
    simp only [List.mem_cons, List.not_mem_nil, or_false] at hb
    rcases hb with rfl | rfl | rfl | rfl
    · exact e0
    · exact e1
    · exact e2
    · exact e3
  · rw [V2_of m outs c b hb, h b hb]

variable (af0 : Dev nD → Aft F cfg0) (af1 : Outs (F := F) → Dev nD → Aft F cfg1) (fgt0 : Fin cfg0.W → Bool) (fgt1 : Fin cfg1.W → Bool)

/-- What the first region's exit says, in terms of the contents left. -/
theorem left0 (c : Dev nD) (Vp : Val1 F c)
    (h : (∀ w, ((dat0 c (W1 m c) (af0 c)).toRForget fgt0).ArrAt w cfg0.N (Vp (Pipeline.arrRef spec0 w))) ∧ ∀ b, b ∉ Finset.univ.image (Pipeline.arrRef spec0) → Vp b = W1 m c b) :
    ∃ outs, Left0 m af0 fgt0 outs c ∧ ∀ b : Ref sig .tc, V2 m outs c b = Vp b := by
  obtain ⟨outs, ho⟩ := exists_outs c Vp
  have hout : ∀ (w : Fin cfg0.W), fgt0 w = false → Vp (Pipeline.arrRef spec0 w) = (dat0 c (W1 m c) (af0 c)).arrAt w cfg0.N := fun w hw =>
    (Dat.toRForget_arrAt_iff _ hw _ _).mp (h.1 w)
  have hin : ∀ (w : Fin cfg0.W), (cfg0.win w).isOut = false → Vp (Pipeline.arrRef spec0 w) = W1 m c (Pipeline.arrRef spec0 w) := fun w hw => by
    have := h.1 w; rw [((dat0 c (W1 m c) (af0 c)).toRForget fgt0).ArrAt_in w hw] at this; exact this
  refine ⟨outs, ⟨fun hf => (ho 2 _).trans (hout 9 hf), fun hf => (ho 2 _).trans (hout 10 hf), fun hf => (ho 2 _).trans (hout 11 hf), fun hf => (ho 2 _).trans (hout 12 hf)⟩,
    V2_eq m c Vp outs ho fun b hb => ?_⟩
  by_cases hi : b ∈ Finset.univ.image (Pipeline.arrRef spec0)
  · obtain ⟨w, -, rfl⟩ := Finset.mem_image.mp hi
    have hw : (cfg0.win w).isOut = false := by
      revert hb; revert w; decide
    exact hin w hw
  · exact h.2 b hi

/-- What the second region's exit says. -/
theorem left1 (outs : Outs (F := F)) (c : Dev nD) (Vp : Val1 F c)
    (h : (∀ w, ((dat1 c (W3 m outs c) (af1 outs c)).toRForget fgt1).ArrAt w cfg1.N (Vp (Pipeline.arrRef spec1 w))) ∧ ∀ b, b ∉ Finset.univ.image (Pipeline.arrRef spec1) → Vp b = W3 m outs c b) :
    (fgt1 4 = false → Vp main_v0_1 = (dat1 c (W3 m outs c) (af1 outs c)).arrAt 4 cfg1.N)
      ∧ ∀ b : Ref sig .tc, (Function.update (V3 m outs c) main_v0_1 (Vp main_v0_1) : Valuation τ sig (Elt F)) b = Vp b := by
  refine ⟨fun hf => (Dat.toRForget_arrAt_iff _ hf _ _).mp (h.1 4), fun b => ?_⟩
  by_cases hb : b = main_v0_1
  · subst hb; exact Function.update_self ..
  · rw [Function.update_of_ne (StableHlo.devRef_ne_of_ne hb)]
    refine Eq.symm ?_
    by_cases hi : b ∈ Finset.univ.image (Pipeline.arrRef spec1)
    · obtain ⟨w, -, rfl⟩ := Finset.mem_image.mp hi
      have hw : (cfg1.win w).isOut = false := by
        revert hb; revert w; decide
      have := h.1 w; rw [((dat1 c (W3 m outs c) (af1 outs c)).toRForget fgt1).ArrAt_in w hw] at this; exact this
    · exact h.2 b hi

/-- The last state: the buffers after the second region, over some contents the first one left. -/
abbrev Tn (c : Dev nD) : sProp 𝕄 :=
  iprop(∃ outs : Outs (F := F), ∃ X : Buf (Elt F) ((c : Thread nD τ).loc main_v0_1),
    ⌜Left0 m af0 fgt0 outs c ∧ (fgt1 4 = false → X = (dat1 c (W3 m outs c) (af1 outs c)).arrAt 4 cfg1.N)⌝
      ∗ StableHlo.held (c : Thread nD τ) (Pipeline.ucRefs τ sig) (Function.update (V3 m outs c) main_v0_1 X))

/-- What a final memory says on one core. -/
def QY (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10))
  ∧ ∃ outs : Outs (F := F), Left0 m af0 fgt0 outs c
    ∧ s.mem ((c.tc : Thread nD τ).loc main_v0_0) = V3 m outs c main_v0_0
    ∧ (fgt1 4 = false → s.mem ((c.tc : Thread nD τ).loc main_v0_1) = (dat1 c (W3 m outs c) (af1 outs c)).arrAt 4 cfg1.N)

/-- The rest of the first state: nothing owed, and both regions' ghost state. -/
abbrev E0 (c : Dev nD) : sProp 𝕄 := iprop(O c ∗ Gh 0 c ∗ Gh 1 c)

/-- The first host stretch. -/
def S0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E0

/-- The second host stretch, over any contents the first region left. -/
def S2 : HostSeg (Ix := Unit) (Name := ℕ) (U := UU) (Lvl := ℕ) (pcfgs (F := F)) defs₀ Variants.none L lv :=
  exSeg (StableHlo.seq hostOps1) (fun outs : Outs (F := F) => HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) fun c => iprop(⌜Left0 m af0 fgt0 outs c⌝ ∗ Gh 1 c ∗ O c)) fun _ => rfl

variable (hb0 : ∀ c, BodyObligationLoose (dat0 c (W1 m c) (af0 c)) (defs₀ (F := F)) Variants.none () Set.univ fgt0)
  (hb1 : ∀ outs c, BodyObligationLoose (dat1 c (W3 m outs c) (af1 outs c)) (defs₀ (F := F)) Variants.none () Set.univ fgt1)

/-- The first region. -/
def S1 : HostSeg (Ix := Unit) (Name := ℕ) (U := UU) (Lvl := ℕ) (pcfgs (F := F)) defs₀ Variants.none L lv :=
  regSeg _ 0 (reg0 (W1 m) af0 (af1 fun _ b c => V0 m c b) fgt0 fgt1 hb0 fun c => Gh 1 c)

/-- The second region, over any contents the first one left. -/
def S3 : HostSeg (Ix := Unit) (Name := ℕ) (U := UU) (Lvl := ℕ) (pcfgs (F := F)) defs₀ Variants.none L lv :=
  exSeg (Prog.lift (.customCall (Pipeline.entry 1) ())) (fun outs : Outs (F := F) =>
    regSeg _ 1 (reg1 (W3 m outs) af0 (af1 outs) fgt0 fgt1 (hb1 outs) fun c => iprop(⌜Left0 m af0 fgt0 outs c⌝))) fun _ => rfl

set_option backward.isDefEq.respectTransparency.types false in
include hb0 hb1 in
/-- The kernel's program runs: every execution ends with the arguments unchanged, the results as described and every
    semaphore at zero. -/
theorem run (g : Dev nD → PrngReg) :
    θ_run defs (onTc (τ := τ) (main (F := F))) ⟨m, fun _ => 0, g⟩ (fun r => (∀ c : Dev nD, QY m af0 af1 fgt0 fgt1 c r.2) ∧ r.2.sem = fun _ => 0) := by
  refine Pipeline.θ_run_regions_kit_dev_sems (pcfgs (F := F)) adm (pdats (W1 m) af0 (af1 fun _ b c => V0 m c b)) () cellOf_inj embL defs₀ Variants.none L lv m g main
    (fun _ => [.host (S0 m), .host (S1 m af0 af1 fgt0 fgt1 hb0), .host (S2 m af0 fgt0), .host (S3 m af0 af1 fgt0 fgt1 hb1)])
    (fun c Q => by
      rewrite [main_chain c, Pipeline.Seg.run_eq_chain]
      exact .rfl)
    (fun c => by simp only [Pipeline.Seg.pipes_host, Pipeline.Seg.pipes_nil]; decide) (fun _ => 0) (fun _ _ => rfl)
    (fun c => iprop(Gh 0 c ∗ Gh 1 c))
    (initOf (Pipeline.cells cfgs cellOf_inj) (Pipeline.launchToks cfgs cellOf_inj), initOf (Pipeline.cells cfgs cellOf_inj) (Pipeline.launchToks cfgs cellOf_inj)) ?_
    (T₀ := fun c => iprop(StableHlo.held (c : Thread nD τ) (Pipeline.ucRefs τ sig) (V0 m c) ∗ E0 c))
    (Tₙ := Tn m af0 af1 fgt0 fgt1)
    (hch := fun c => ⟨.rfl, ?_, ?_, ?_, ?_⟩)
    (hinit := ?_) (QY := QY m af0 af1 fgt0 fgt1)
    (hfin := fun c s' => ?_) (hQ := fun _ h hz => ⟨h, funext fun g => hz g (.inr (regions_no_unscoped g.2))⟩)
  · -- the launch element: one copy for the kit, the other for the regions
    iintro Hu
    ihave H := (ownU_pair _ _) $$ Hu
    icases H with ⟨HP, HQ⟩
    imod (Pipeline.fund_ghost cfgs embR cellOf_inj) $$ HQ with ⟨Hg, Ht⟩
    imodintro
    isplitl [HP]; · iexact HP
    ihave H2 := (show iprop((bigSep Finset.univ fun c : Dev nD => bigSep Finset.univ fun p => Pipeline.cellsGhost cfgs embR p c)
        ∗ (bigSep Finset.univ fun c : Dev nD => bigSep Finset.univ fun p => (Pipeline.toksInit cfgs embR p c : sProp 𝕄)))
        ⊢ bigSep Finset.univ fun c : Dev nD => iprop(Gh 0 c ∗ Gh 1 c) from by
      rw [← bigSep_sep']
      refine bigSep_mono fun c _ => ?_
      rw [BI.bigSep_fin_two, BI.bigSep_fin_two]
      show BIBase.Entails iprop((Pipeline.cellsGhost cfgs embR 0 c ∗ Pipeline.cellsGhost cfgs embR 1 c) ∗ (Pipeline.toksInit cfgs embR 0 c ∗ Pipeline.toksInit cfgs embR 1 c)) iprop(Gh 0 c ∗ Gh 1 c)
      iintro ⟨⟨H1, H2⟩, ⟨H3, H4⟩⟩
      isplitl [H1 H3]
      · isplitl [H1]; · iexact H1
        iexact H3
      isplitl [H2]; · iexact H2
      iexact H4) $$ [Hg Ht]
    · isplitl [Hg]; · iexact Hg
      iexact Ht
    iexact H2
  · show iprop(StableHlo.held (c : Thread nD τ) (Pipeline.ucRefs τ sig) (V1 m c) ∗ E0 c) ⊢ iprop((unscopedBufs c (W1 m c) ∗ Gh 1 c ∗ O c) ∗ Gh 0 c)
    rw [← Pipeline.unscopedBufs_held (Ix := Unit) (Name := ℕ) (U := UU) (Lvl := ℕ) c (V1 m c)]
    iintro ⟨Hu, HO, H0, H1⟩
    isplitl [Hu H1 HO]
    · isplitl [Hu]; · iexact Hu
      isplitl [H1]; · iexact H1
      iexact HO
    iexact H0
  · show iprop(∃ Vp : Val1 F c, ⌜(∀ w, ((dat0 c (W1 m c) (af0 c)).toRForget fgt0).ArrAt w cfg0.N (Vp (Pipeline.arrRef spec0 w)))
        ∧ ∀ b, b ∉ Finset.univ.image (Pipeline.arrRef spec0) → Vp b = W1 m c b⌝ ∗ unscopedBufs c Vp ∗ Gh 1 c ∗ O c)
      ⊢ iprop(∃ outs : Outs (F := F), StableHlo.held (c : Thread nD τ) (Pipeline.ucRefs τ sig) (V2 m outs c) ∗ ⌜Left0 m af0 fgt0 outs c⌝ ∗ Gh 1 c ∗ O c)
    iintro ⟨%Vp, %h, Hu, H1, HO⟩
    obtain ⟨outs, hl, hV⟩ := left0 m af0 fgt0 c Vp h
    obtain rfl : (fun b : Ref sig .tc => V2 m outs c b) = Vp := funext hV
    iexists outs
    rw [← Pipeline.unscopedBufs_held (Ix := Unit) (Name := ℕ) (U := UU) (Lvl := ℕ) c (V2 m outs c)]
    isplitl [Hu]; · iexact Hu
    isplitr; · ipureintro; exact hl
    isplitl [H1]; · iexact H1
    iexact HO
  · show iprop(∃ outs : Outs (F := F), StableHlo.held (c : Thread nD τ) (Pipeline.ucRefs τ sig) (V3 m outs c) ∗ ⌜Left0 m af0 fgt0 outs c⌝ ∗ Gh 1 c ∗ O c)
      ⊢ iprop(∃ outs : Outs (F := F), (unscopedBufs c (W3 m outs c) ∗ ⌜Left0 m af0 fgt0 outs c⌝ ∗ O c) ∗ Gh 1 c)
    iintro ⟨%outs, Hu, %hl, H1, HO⟩
    iexists outs
    ihave Hu := (BIBase.Entails.of_eq (Pipeline.unscopedBufs_held (Ix := Unit) (Name := ℕ) (U := UU) (Lvl := ℕ) c (V3 m outs c)).symm) $$ Hu
    isplitl [Hu HO]
    · isplitl [Hu]; · iexact Hu
      isplitr; · ipureintro; exact hl
      iexact HO
    iexact H1
  · show iprop(∃ outs : Outs (F := F), ∃ Vp : Val1 F c, ⌜(∀ w, ((dat1 c (W3 m outs c) (af1 outs c)).toRForget fgt1).ArrAt w cfg1.N (Vp (Pipeline.arrRef spec1 w)))
        ∧ ∀ b, b ∉ Finset.univ.image (Pipeline.arrRef spec1) → Vp b = W3 m outs c b⌝ ∗ unscopedBufs c Vp ∗ ⌜Left0 m af0 fgt0 outs c⌝ ∗ O c)
      ⊢ iprop(Tn m af0 af1 fgt0 fgt1 c ∗ O c)
    iintro ⟨%outs, %Vp, %h, Hu, %hl, HO⟩
    obtain ⟨hX, hV⟩ := left1 m af1 fgt1 outs c Vp h
    isplitl [Hu]
    · iexists outs; iexists (Vp main_v0_1)
      isplitr; · ipureintro; exact ⟨hl, hX⟩
      rw [← Pipeline.unscopedBufs_held (Ix := Unit) (Name := ℕ) (U := UU) (Lvl := ℕ) c (Function.update (V3 m outs c) main_v0_1 (Vp main_v0_1)),
        show (fun b : Ref sig .tc => (Function.update (V3 m outs c) main_v0_1 (Vp main_v0_1) : Valuation τ sig (Elt F)) b) = Vp from funext hV]
      iexact Hu
    iexact HO
  · refine Pipeline.initEach L lv fun c => ?_
    rw [← Pipeline.unscopedBufs_held (Ix := Unit) (Name := ℕ) (U := UU) (Lvl := ℕ) c (V0 m c)]
    iintro ⟨⟨Hub, -, HO, -, -, HG⟩, -⟩
    imodintro
    isplitl [Hub]; · iexact Hub
    isplitl [HO]; · iexists ∅; iexact HO
    iexact HG
  · -- the end, read off the last state
    unfold Tn StableHlo.held
    iintro ⟨⟨%outs, %X, %h0, Hh⟩, HSI⟩
    ihave Hr := (pointsTo_read_all (Pipeline.ucRefs τ sig) (fun b => ((c : Thread nD τ).1, b)) (Function.update (V3 m outs c) main_v0_1 X) s') $$ [Hh HSI]
    · isplitl [Hh] <;> iassumption
    icases Hr with ⟨%h, HSI⟩
    imodintro
    isplitr
    · ipureintro
      have hread : ∀ b : Ref sig .tc, b ≠ main_v0_1 → ¬ (Proc.devRef .tc b : DevRef τ sig).isScoped → s'.mem.mem ((c.tc : Thread nD τ).loc b) = V3 m outs c b := fun b hb hs =>
        (h (Proc.devRef .tc b) (Finset.mem_filter.mpr ⟨StableHlo.devRef_mem_tcRefs b, hs⟩)).trans (Function.update_of_ne (StableHlo.devRef_ne_of_ne hb) _ _)
      have harg : ∀ b : Ref sig .tc, b ∉ ([main_v0_1] : List (Ref sig .tc)) → ¬ (Proc.devRef .tc b : DevRef τ sig).isScoped → V4 m outs c b = m ((c : Thread nD τ).loc b) →
          s'.mem.mem ((c.tc : Thread nD τ).loc b) = m ((c : Thread nD τ).loc b) := fun b hb hs he =>
        (hread b (List.ne_of_not_mem_cons hb) hs).trans ((V4_of m outs c b hb).symm.trans he)
      refine ⟨⟨harg main_arg0 (by decide) (by decide) (V4_main_arg0 m outs c),
        harg main_arg1 (by decide) (by decide) (V4_main_arg1 m outs c),
        harg main_arg2 (by decide) (by decide) (V4_main_arg2 m outs c),
        harg main_arg3 (by decide) (by decide) (V4_main_arg3 m outs c),
        harg main_arg4 (by decide) (by decide) (V4_main_arg4 m outs c),
        harg main_arg5 (by decide) (by decide) (V4_main_arg5 m outs c),
        harg main_arg6 (by decide) (by decide) (V4_main_arg6 m outs c),
        harg main_arg7 (by decide) (by decide) (V4_main_arg7 m outs c),
        harg main_arg8 (by decide) (by decide) (V4_main_arg8 m outs c),
        harg main_arg9 (by decide) (by decide) (V4_main_arg9 m outs c),
        harg main_arg10 (by decide) (by decide) (V4_main_arg10 m outs c)⟩, outs, h0.1, hread main_v0_0 (by decide) (by decide), fun hf => ?_⟩
      exact ((h (Proc.devRef .tc main_v0_1) (Finset.mem_filter.mpr ⟨StableHlo.devRef_mem_tcRefs main_v0_1, by decide⟩)).trans (Function.update_self ..)).trans (h0.2 hf)
    · iexact HSI

end Cert.KernelIdeal.Hand

end
-- ==== Proof.Frames.lean ====
/-
  The kernel's frame at any float values: nothing is said of what the kernels leave, only that they run.
-/
module

public import proofs.«01_k».proof.Proof.Run
public import proofs.«01_k».proof.Proof.Gen.KernelIdeal.Regions

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ UU ℕ

/-- The program at a point of the first grid. -/
theorem row0 (t : Fin cfg0.N) : defs₀ (F := F) .tc cfg0.body (cfg0.bodyArgs t (cfg0.slots t)) = bodyAt0 t := by
  unfold defs₀; rw [Defs.onTc_tc]

/-- The program at a point of the second grid. -/
theorem row1 (t : Fin cfg1.N) : defs₀ (F := F) .tc cfg1.body (cfg1.bodyArgs t (cfg1.slots t)) = bodyAt1 t := by
  unfold defs₀; rw [Defs.onTc_tc]

/-- The first kernel runs at every point, whatever its staging buffers hold. -/
theorem runs0 (c : Dev nD) (V : Val1 F c) (af : Aft F cfg0) : BodyObligation (dat0 c V af) (defs₀ (F := F)) Variants.none () Set.univ fun _ => true := fun t => by
  rw [bigSep_W0]; dsimp only; rw [row0]
  rw [show (dat0 c V af).Φ t.castSucc = (dat0 c V af).Φ t.succ from rfl,
    show (dat0 c V af).owesAt () t.castSucc = (dat0 c V af).owesAt () t.succ from rfl]
  iintro ⟨HΦ, HO, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩⟩
  by_cases hi : first (grid0.coords t) = 1#1
  · iapply (body0_first c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) X0 X1 X2 X3 X4 X5 X6 X7 X8 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists X9; iexact H9
    isplitl [H10]; · iexists X10; iexact H10
    isplitl [H11]; · iexists X11; iexact H11
    isplitl [H12]; · iexists X12; iexact H12
    iintro ⟨H0, H1, H2, H3, H4, H5, H6, H7, H8, H9, H10, H11, H12⟩
    isplitl [HΦ]; · iexact HΦ
    isplitl [HO]; · iexact HO
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · iapply (body0_later c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) X0 X1 X2 X3 X4 X5 X6 X7 X8 X10 X11 X12 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists X9; iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [HO]; · iexact HO
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

/-- The second kernel runs at every point, whatever its staging buffers hold. -/
theorem runs1 (c : Dev nD) (V : Val1 F c) (af : Aft F cfg1) : BodyObligation (dat1 c V af) (defs₀ (F := F)) Variants.none () Set.univ fun _ => true := fun t => by
  rw [bigSep_W1]; dsimp only; rw [row1]
  rw [show (dat1 c V af).Φ t.castSucc = (dat1 c V af).Φ t.succ from rfl,
    show (dat1 c V af).owesAt () t.castSucc = (dat1 c V af).owesAt () t.succ from rfl]
  iintro ⟨HΦ, HO, ⟨%X0, H0⟩, ⟨%X1, H1⟩, ⟨%X2, H2⟩, ⟨%X3, H3⟩, ⟨%X4, H4⟩⟩
  iapply (body1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) X0 X1 X2 X3 _)
  isplitl [H0]; · iexact H0
  isplitl [H1]; · iexact H1
  isplitl [H2]; · iexact H2
  isplitl [H3]; · iexact H3
  isplitl [H4]; · iexists X4; iexact H4
  iintro ⟨H0, H1, H2, H3, H4⟩
  isplitl [HΦ]; · iexact HΦ
  isplitl [HO]; · iexact HO
  isplitl [H0]; · iexists _; iexact H0
  isplitl [H1]; · iexists _; iexact H1
  isplitl [H2]; · iexists _; iexact H2
  isplitl [H3]; · iexists _; iexact H3
  iexists _; iexact H4

/-- What nothing is said of. -/
def noAft (cfg : Cfg sig Λ₀) : Aft F cfg := fun _ _ _ => Classical.arbitrary _

/-- At any float values the kernel's program runs to its end with every argument unchanged and every semaphore at zero. -/
theorem frame_any (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).1, h.2⟩)
    (run m (fun _ => noAft cfg0) (fun _ _ => noAft cfg1) (fun _ => true) (fun _ => true) (fun c => (runs0 c _ _).loose) (fun _ c => (runs1 c _ _).loose) g)

end Cert.KernelIdeal.Hand

end
-- ==== Proof.Transfer.lean ====
/-
  The machine's kernel is the idealised one with the machine's float values: its frame from the frame at any values.
-/
module

public import proofs.«01_k».proof.Proof.Frames
public import proofs.«01_k».proof.Proof.Gen.Kernel.Regions

@[expose] public section

set_option maxRecDepth 65536

noncomputable section

namespace Cert.Kernel.Hand

open Idealize.ShloMosaic
open Idealize.ShloMosaic.TcCoe Idealize.ShloMosaic.Tactic
open Idealize.SL.Sem

variable {F : FTy → Type} [FloatOps F]

set_option maxHeartbeats 2000000 in
/-- The two first kernels are one program. -/
theorem b0 : Cert.Kernel.cc0__pass1_body (F := F) = Cert.KernelIdeal.cc0__pass1_body (F := F) := rfl

set_option maxHeartbeats 2000000 in
/-- The two second kernels are one program. -/
theorem b1 : Cert.Kernel.cc1__pass2_body (F := F) = Cert.KernelIdeal.cc1__pass2_body (F := F) := rfl

set_option maxHeartbeats 2000000 in
/-- The two body tables are one. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  obtain ⟨l, hl⟩ := l
  match l, hl, a with
  | 0, _, (t, s) => dsimp only; rw [b0]; rfl
  | 1, _, (t, s) => dsimp only; rw [b1]; rfl

set_option maxHeartbeats 2000000 in
/-- The two tables with the pipelines are one. -/
theorem defs_eq : Cert.Kernel.defs (F := F) = Cert.KernelIdeal.defs (F := F) := by
  unfold Cert.Kernel.defs Cert.KernelIdeal.defs
  rw [defs₀_eq]; rfl

set_option maxHeartbeats 2000000 in
/-- The two host programs are one. -/
theorem main_eq : Cert.Kernel.main (F := F) = Cert.KernelIdeal.main (F := F) := rfl

set_option maxHeartbeats 2000000 in
/-- The kernel's program runs to its end with every argument unchanged and every semaphore at zero. -/
theorem frame_any (m : (ℓ : Loc Cert.Kernel.nD Cert.Kernel.τ Cert.Kernel.sig) → Buf (Elt F) ℓ) (g : Dev Cert.Kernel.nD → PrngReg) :
    θ_run Cert.Kernel.defs (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) := by
  rw [defs_eq, main_eq]
  exact Cert.KernelIdeal.Hand.frame_any (F := F) m g

end Cert.Kernel.Hand

end
-- ==== Proof.Pay.lean ====
/-
  What each stored value of the two kernels is at an index, over the extended reals.
-/
module

public import proofs.«01_k».proof.Proof.Body
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL.Sem

/-- A hidden unit of one atom of a block: the hyperbolic tangent of the linear form of the position, the bias and the
    species' row, the row picked by a sum over all species against the indicator of the atom's own. -/
def hidK (d0 : FVec Ideal S16384x3 .f32) (d1 : IVec S16384 32) (d4 : FVec Ideal S64x3 .f32) (d6 : FVec Ideal S64x100 .bf16) (d8 : FVec Ideal S64x1 .f32)
    (s : Fin 64) (l : Fin 16384) : EReal :=
  Ideal.tanh (∑ x : Fin 3, d4 (ix2 s x) * d0 (ix2 l x) + d8 (ix2 s 0)
    + ∑ x : Fin 100, d6 (ix2 s x) * FloatOps.sitofp (F := Ideal) FTy.f32 (BitVec.setWidth 32 (IntOp.cmpi CmpIPredicate.eq (BitVec.ofNat 32 ↑x) (d1 (ix1 l)))))

/-- The mark of a lane that holds an atom: the block's first atom plus the lane is below the number of atoms. -/
def mark (i : grid0.Coords) (l : Fin 16384) : BitVec 1 :=
  IntOp.cmpi CmpIPredicate.slt (IntOp.addi (Scalar.muli (BitVec.ofNat 32 ↑(i 0)) 16384#32) (BitVec.ofNat 32 ↑l)) 800000#32

/-- The stored hidden layer is `hidK`. -/
theorem hid_at (d0 : FVec Ideal S16384x3 .f32) (d4 : FVec Ideal S64x3 .f32) (d1 : IVec S16384 32) (d6 : FVec Ideal S64x100 .bf16) (d8 : FVec Ideal S64x1 .f32)
    (s : Fin 64) (l : Fin 16384) : k0_pay6 (F := Ideal) d0 d4 d1 d6 d8 (ix2 s l) = hidK d0 d1 d4 d6 d8 s l := by
  unfold hidK
  pointwise [k0_pay6]

/-- The first kernel's block output: momenta in the first three rows, the gradient in the last three. -/
theorem stOut_at (d0 : FVec Ideal S16384x3 .f32) (d1 : IVec S16384 32) (d2 : FVec Ideal S16384x3 .f32) (d3 : FVec Ideal S16384 .f32) (d4 : FVec Ideal S64x3 .f32) (d5 : FVec Ideal S3x64 .f32) (d6 : FVec Ideal S64x100 .bf16) (d7 : FVec Ideal S64x1 .f32) (d8 : FVec Ideal S64x1 .f32)
    (j : Fin 6) (l : Fin 16384) : stOut (F := Ideal) d0 d1 d2 d3 d4 d5 d6 d7 d8 (ix2 j l)
      = if h : (j : ℕ) < 3 then d2 (ix2 l ⟨j, h⟩) * d3 (ix1 l)
        else ∑ x : Fin 64, d5 (ix2 ⟨j - 3, by omega⟩ x) * ((1 - hidK d0 d1 d4 d6 d8 x l * hidK d0 d1 d4 d6 d8 x l) * d7 (ix2 x 0)) := by
  unfold stOut
  simp only [← hid_at]
  generalize k0_pay6 (F := Ideal) d0 d4 d1 d6 d8 = h
  pointwise [k0_pay13, k0_pay12, k0_pay11]

/-- The potential sum grows by the marked lanes' sum over the hidden units. -/
theorem stepE_at (i : grid0.Coords) (d0 : FVec Ideal S16384x3 .f32) (d1 : IVec S16384 32) (d4 : FVec Ideal S64x3 .f32) (d6 : FVec Ideal S64x100 .bf16) (d7 : FVec Ideal S64x1 .f32) (d8 : FVec Ideal S64x1 .f32) (a : FVec Ideal S1x1 .f32) :
    stepE (F := Ideal) i d0 d1 d4 d6 d7 d8 a (ix2 0 0)
      = a (ix2 0 0) + ∑ x : Fin 64, ∑ l : Fin 16384, Scalar.select (mark i l) (hidK d0 d1 d4 d6 d8 x l * d7 (ix2 x 0)) (0 : EReal) := by
  unfold stepE
  simp only [← hid_at]
  pointwise [k0_pay10, k0_pay8, k0_pay7, k0_pay9, k0_pay5, mark]

/-- The kinetic sum grows by the marked lanes' sum over the three axes. -/
theorem stepK_at (i : grid0.Coords) (d2 : FVec Ideal S16384x3 .f32) (d3 : FVec Ideal S16384 .f32) (a : FVec Ideal S1x1 .f32) :
    stepK (F := Ideal) i d2 d3 a (ix2 0 0)
      = a (ix2 0 0) + ∑ k : Fin 3, ∑ l : Fin 16384, Scalar.select (mark i l) (d2 (ix2 l k) * d3 (ix1 l) * d2 (ix2 l k)) (0 : EReal) := by
  unfold stepK
  pointwise [k0_pay14, k0_pay12, k0_pay11, k0_pay5, mark]

/-- Each momentum sum grows by the marked lanes' sum. -/
theorem stepP_at (i : grid0.Coords) (d2 : FVec Ideal S16384x3 .f32) (d3 : FVec Ideal S16384 .f32) (a : FVec Ideal S3x1 .f32) (k : Fin 3) :
    stepP (F := Ideal) i d2 d3 a (ix2 k 0)
      = a (ix2 k 0) + ∑ l : Fin 16384, Scalar.select (mark i l) (d2 (ix2 l k) * d3 (ix1 l)) (0 : EReal) := by
  unfold stepP
  pointwise [k0_pay1, k0_pay12, k0_pay11, k0_pay5, mark]

/-- The second kernel's block output. -/
theorem jOut_at (d0 : FVec Ideal S6x16384 .f32) (d1 : FVec Ideal S16384 .f32) (d2 : FVec Ideal S3x1 .f32) (d3 : FVec Ideal S3x1 .f32) (l : Fin 16384) (j : Fin 6) :
    k1_pay1 (F := Ideal) d2 d3 d1 d0 (ix2 l j)
      = if h : (j : ℕ) < 3 then d0 (ix2 j l) * d2 (ix2 ⟨j, h⟩ 0) + d1 (ix1 l) * d3 (ix2 ⟨j, h⟩ 0)
        else d0 (ix2 j l) * d2 (ix2 ⟨j - 3, by omega⟩ 0) := by
  pointwise [k1_pay1]
  split
  · rfl
  · congr 3
    ext; simp; omega

/-- The potential sum restarts at zero. -/
theorem pay2_at : k0_pay2 (F := Ideal) (ix2 0 0) = (0 : EReal) := by
  pointwise [k0_pay2]

/-- The kinetic sum restarts at zero. -/
theorem pay3_at : k0_pay3 (F := Ideal) (ix2 0 0) = (0 : EReal) := by
  pointwise [k0_pay3]

/-- The momentum sums restart at zero. -/
theorem pay4_at (k : Fin 3) : k0_pay4 (F := Ideal) (ix2 k 0) = (0 : EReal) := by
  pointwise [k0_pay4]

/-- A lane is marked exactly when it holds an atom. -/
theorem mark_iff (t : Fin 49) (i : grid0.Coords) (hi : (i 0).val = t.val) (l : Fin 16384) : mark i l = 1#1 ↔ t.val * 16384 + l.val < 800000 := by
  have := t.isLt
  have := l.isLt
  have e : IntOp.addi (Scalar.muli (BitVec.ofNat 32 t.val) 16384#32) (BitVec.ofNat 32 l.val) = BitVec.ofNat 32 (t.val * 16384 + l.val) := by
    show BitVec.ofNat 32 t.val * BitVec.ofNat 32 16384 + BitVec.ofNat 32 l.val = _
    rw [← BitVec.ofNat_mul, ← BitVec.ofNat_add]
  unfold mark
  rw [hi, e]
  exact WordCmp.cmpi_slt_ofNat_eq_one_iff (by omega) (by omega)

end Cert.KernelIdeal.Hand

end
-- ==== Proof.Vals.lean ====
/-
  What the first kernel computes, over the extended reals: the hidden layer, the rows it leaves for each atom, and the sums it
  keeps over the blocks of atoms met so far.
-/
module

public import proofs.«01_k».proof.Proof.Pay

@[expose] public section

set_option maxRecDepth 16384

noncomputable section

namespace Cert.KernelIdeal.Hand

open Cert.KernelIdeal Cert.KernelIdeal.Gen
open Idealize.ShloMosaic

variable (r : FVec Ideal S800000x3 .f32) (z : IVec S800000 32) (v : FVec Ideal S800000x3 .f32) (ma : FVec Ideal S800000 .f32)
  (wt : FVec Ideal S64x3 .f32) (w1 : FVec Ideal S3x64 .f32) (et : FVec Ideal S64x100 .bf16) (w2 bc : FVec Ideal S64x1 .f32)

/-- The hidden layer of the potential at unit `s` and atom `n`; the embedding row is picked by a sum over all elements. -/
def hidN (s : Fin 64) (n : Fin 800000) : EReal :=
  Ideal.tanh (∑ x : Fin 3, wt (ix2 s x) * r (ix2 n x) + bc (ix2 s 0)
    + ∑ x : Fin 100, et (ix2 s x) * FloatOps.sitofp (F := Ideal) FTy.f32 (BitVec.setWidth 32 (IntOp.cmpi CmpIPredicate.eq (BitVec.ofNat 32 ↑x) (z (ix1 n)))))

/-- The six rows at atom `n`: the momenta, then the gradient of the potential. -/
def stN (j : Fin 6) (n : Fin 800000) : EReal :=
  if h : (j : ℕ) < 3 then v (ix2 n ⟨j, h⟩) * ma (ix1 n)
  else ∑ x : Fin 64, w1 (ix2 ⟨j - 3, by omega⟩ x) * ((1 - hidN r z wt et bc x n * hidN r z wt et bc x n) * w2 (ix2 x 0))

/-- The first kernel's whole array of six rows. -/
def stA : FVec Ideal S6x800000 .f32 := fun i => stN r z v ma wt w1 et w2 bc (i 0) (i 1)

/-- A value per atom at a lane of a block, zero where the lane holds no atom. -/
def onLane (t : ℕ) (f : Fin 800000 → EReal) (l : Fin 16384) : EReal :=
  if h : t * 16384 + l.val < 800000 then f ⟨t * 16384 + l.val, h⟩ else 0

/-- A block's share of the potential energy. -/
def blkE (t : ℕ) : EReal := ∑ x : Fin 64, ∑ l, onLane t (fun n => hidN r z wt et bc x n * w2 (ix2 x 0)) l
/-- A block's share of the kinetic sum. -/
def blkK (t : ℕ) : EReal := ∑ k : Fin 3, ∑ l, onLane t (fun n => v (ix2 n k) * ma (ix1 n) * v (ix2 n k)) l
/-- A block's share of a momentum sum. -/
def blkP (k : Fin 3) (t : ℕ) : EReal := ∑ l, onLane t (fun n => v (ix2 n k) * ma (ix1 n)) l

/-- The potential energy over the blocks up to `t`. -/
def accE (t : ℕ) : FVec Ideal S1x1 .f32 := fun _ => ∑ u ∈ Finset.range (t + 1), blkE r z wt et w2 bc u
/-- The kinetic sum over the blocks up to `t`. -/
def accK (t : ℕ) : FVec Ideal S1x1 .f32 := fun _ => ∑ u ∈ Finset.range (t + 1), blkK v ma u
/-- The momentum sums over the blocks up to `t`. -/
def accP (t : ℕ) : FVec Ideal S3x1 .f32 := fun i => ∑ u ∈ Finset.range (t + 1), blkP v ma (i 0) u

/-- A masked lane reads as `onLane` when its value is the atom's. -/
theorem select_mark (t : Fin 49) (i : grid0.Coords) (hi : (i 0).val = t.val) (l : Fin 16384) (a : EReal) (f : Fin 800000 → EReal)
    (h : ∀ h : t.val * 16384 + l.val < 800000, a = f ⟨t.val * 16384 + l.val, h⟩) :
    Scalar.select (mark i l) a 0 = onLane t.val f l := by
  unfold onLane
  by_cases hl : t.val * 16384 + l.val < 800000
  · rw [dif_pos hl, WordCmp.select_of_eq_one ((mark_iff t i hi l).mpr hl), h hl]
  · rw [dif_neg hl, WordCmp.select_of_eq_zero ((BitVec.eq_zero_or_eq_one _).resolve_right fun e => hl ((mark_iff t i hi l).mp e))]

variable (t : Fin 49) (i : grid0.Coords) (hi : (i 0).val = t.val)
  (d0 : FVec Ideal S16384x3 .f32) (d1 : IVec S16384 32) (d2 : FVec Ideal S16384x3 .f32) (d3 : FVec Ideal S16384 .f32)
  (h0 : ∀ (l : Fin 16384) (k : Fin 3) (h : t.val * 16384 + l.val < 800000), d0 (ix2 l k) = r (ix2 ⟨t.val * 16384 + l.val, h⟩ k))
  (h1 : ∀ (l : Fin 16384) (h : t.val * 16384 + l.val < 800000), d1 (ix1 l) = z (ix1 ⟨t.val * 16384 + l.val, h⟩))
  (h2 : ∀ (l : Fin 16384) (k : Fin 3) (h : t.val * 16384 + l.val < 800000), d2 (ix2 l k) = v (ix2 ⟨t.val * 16384 + l.val, h⟩ k))
  (h3 : ∀ (l : Fin 16384) (h : t.val * 16384 + l.val < 800000), d3 (ix1 l) = ma (ix1 ⟨t.val * 16384 + l.val, h⟩))

include h0 h1 in
/-- At a lane that holds an atom the block's hidden layer is the atom's. -/
theorem hidK_in (s : Fin 64) (l : Fin 16384) (h : t.val * 16384 + l.val < 800000) :
    hidK d0 d1 wt et bc s l = hidN r z wt et bc s ⟨t.val * 16384 + l.val, h⟩ := by
  unfold hidK hidN
  simp only [h0 l _ h, h1 l h]

include h0 h1 h2 h3 in
/-- At a lane that holds an atom the block's six rows are the array's. -/
theorem stOut_in (j : Fin 6) (l : Fin 16384) (h : t.val * 16384 + l.val < 800000) :
    stOut (F := Ideal) d0 d1 d2 d3 wt w1 et w2 bc (ix2 j l) = stA r z v ma wt w1 et w2 bc (ix2 j ⟨t.val * 16384 + l.val, h⟩) := by
  rw [stOut_at]
  show _ = stN r z v ma wt w1 et w2 bc j ⟨t.val * 16384 + l.val, h⟩
  unfold stN
  simp only [hidK_in r z wt et bc t d0 d1 h0 h1 _ l h, h2 l _ h, h3 l h]

include hi h0 h1 in
/-- A block adds its share of the potential energy. -/
theorem stepE_in (a : FVec Ideal S1x1 .f32) : stepE (F := Ideal) i d0 d1 wt et w2 bc a = fun _ => a (ix2 0 0) + blkE r z wt et w2 bc t.val := by
  refine funext fun y => ?_
  obtain rfl : y = ix2 0 0 := by idx_ext
  rw [stepE_at]
  refine congrArg (a (ix2 0 0) + ·) (Finset.sum_congr rfl fun x _ => Finset.sum_congr rfl fun l _ => ?_)
  exact select_mark t i hi l _ _ fun h => by rw [hidK_in r z wt et bc t d0 d1 h0 h1 x l h]

include hi h2 h3 in
/-- A block adds its share of the kinetic sum. -/
theorem stepK_in (a : FVec Ideal S1x1 .f32) : stepK (F := Ideal) i d2 d3 a = fun _ => a (ix2 0 0) + blkK v ma t.val := by
  refine funext fun y => ?_
  obtain rfl : y = ix2 0 0 := by idx_ext
  rw [stepK_at]
  refine congrArg (a (ix2 0 0) + ·) (Finset.sum_congr rfl fun x _ => Finset.sum_congr rfl fun l _ => ?_)
  exact select_mark t i hi l _ (fun n => v (ix2 n x) * ma (ix1 n) * v (ix2 n x)) fun h => by rw [h2 l x h, h3 l h]

include hi h2 h3 in
/-- A block adds its share of the momentum sums. -/
theorem stepP_in (a : FVec Ideal S3x1 .f32) : stepP (F := Ideal) i d2 d3 a = fun y => a y + blkP v ma (y 0) t.val := by
  refine funext fun y => ?_
  obtain ⟨k, rfl⟩ : ∃ k : Fin 3, y = ix2 k 0 := ⟨y 0, by idx_ext⟩
  rw [stepP_at]
  refine congrArg (a (ix2 k 0) + ·) (Finset.sum_congr rfl fun l _ => ?_)
  exact select_mark t i hi l _ (fun n => v (ix2 n k) * ma (ix1 n)) fun h => by rw [h2 l k h, h3 l h]

/-- The first block's sum is its share alone. -/
theorem accE_zero : (fun _ => (k0_pay2 (F := Ideal)) (ix2 0 0) + blkE r z wt et w2 bc 0 : FVec Ideal S1x1 .f32) = accE r z wt et w2 bc 0 := by
  funext y; unfold accE; rw [pay2_at, zero_add, zero_add, Finset.sum_range_one]
/-- A later block's sum is the sum before it and its share. -/
theorem accE_succ (t : ℕ) : (fun _ => accE r z wt et w2 bc t (ix2 0 0) + blkE r z wt et w2 bc (t + 1) : FVec Ideal S1x1 .f32) = accE r z wt et w2 bc (t + 1) := by
  funext y; unfold accE; rw [Finset.sum_range_succ _ (t + 1)]
/-- The first block's sum is its share alone. -/
theorem accK_zero : (fun _ => (k0_pay3 (F := Ideal)) (ix2 0 0) + blkK v ma 0 : FVec Ideal S1x1 .f32) = accK v ma 0 := by
  funext y; unfold accK; rw [pay3_at, zero_add, zero_add, Finset.sum_range_one]
/-- A later block's sum is the sum before it and its share. -/
theorem accK_succ (t : ℕ) : (fun _ => accK v ma t (ix2 0 0) + blkK v ma (t + 1) : FVec Ideal S1x1 .f32) = accK v ma (t + 1) := by
  funext y; unfold accK; rw [Finset.sum_range_succ _ (t + 1)]
/-- The first block's sum is its share alone. -/
theorem accP_zero : (fun y => (k0_pay4 (F := Ideal)) y + blkP v ma (y 0) 0 : FVec Ideal S3x1 .f32) = accP v ma 0 := by
  funext y
  obtain ⟨k, rfl⟩ : ∃ k : Fin 3, y = ix2 k 0 := ⟨y 0, by idx_ext⟩
  unfold accP; rw [pay4_at, zero_add, zero_add, Finset.sum_range_one]
/-- A later block's sum is the sum before it and its share. -/
theorem accP_succ (t : ℕ) : (fun y => accP v ma t y + blkP v ma (y 0) (t + 1) : FVec Ideal S3x1 .f32) = accP v ma (t + 1) := by
  funext y; unfold accP; rw [Finset.sum_range_succ _ (t + 1)]

end Cert.KernelIdeal.Hand

end
-- ==== Proof.Geom.lean ====
/-
  Where the blocks of the two grids lie in their arrays, and what a fetch brings in.
-/
module

public import proofs.«01_k».proof.Proof.Pay
public import proofs.«01_k».proof.Proof.Launch
public import proofs.«01_k».proof.Proof.Gen.KernelIdeal.Points
public import Idealize.ShloMosaic.Lib.Pipeline.ValueKit

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL.Sem
open Idealize.ShloMosaic.Pipeline (Dat)

/-- The block index of every moving window of the first grid, and the grid's coordinate, at a point. -/
theorem idx0 : ∀ t : Fin cfg0.N, win0_0.index t = ![t.val, 0] ∧ win0_1.index t = ![t.val] ∧ win0_2.index t = ![t.val, 0] ∧ win0_3.index t = ![t.val] ∧ win0_9.index t = ![0, t.val]
    ∧ (grid0.coords t 0).val = t.val :=
  (by decide +kernel : ∀ t : Fin grid0.N, _)

/-- The whole windows of the first grid never move. -/
theorem idxw0 : ∀ t : Fin cfg0.N, win0_4.index t = ![0, 0] ∧ win0_5.index t = ![0, 0] ∧ win0_6.index t = ![0, 0] ∧ win0_7.index t = ![0, 0] ∧ win0_8.index t = ![0, 0]
    ∧ win0_10.index t = ![0, 0] ∧ win0_11.index t = ![0, 0] ∧ win0_12.index t = ![0, 0] :=
  (by decide +kernel : ∀ t : Fin grid0.N, _)

/-- The block index of every window of the second grid at a point. -/
theorem idx1 : ∀ t : Fin cfg1.N, win1_0.index t = ![0, t.val] ∧ win1_1.index t = ![t.val] ∧ win1_2.index t = ![0, 0] ∧ win1_3.index t = ![0, 0] ∧ win1_4.index t = ![t.val, 0] :=
  (by decide +kernel : ∀ t : Fin grid1.N, _)

/-- How much of window 0's block lies inside its array, on grid 0. -/
theorem xsize0_0 : ∀ t : Fin cfg0.N, (∀ l : Fin 16384, t.val * 16384 + l.val < 800000 ↔ l.val < win0_0.xsize (grid0.coords t) 0) ∧ win0_0.xsize (grid0.coords t) 1 = 3 := by
  have h : ∀ t : Fin grid0.N, win0_0.xsize (grid0.coords t) 0 = min 16384 (800000 - t.val * 16384) ∧ win0_0.xsize (grid0.coords t) 1 = 3 := by decide +kernel
  intro t
  refine ⟨fun l => ?_, (h t).2⟩
  rw [(h t).1]; have := l.isLt; omega

/-- How much of window 1's block lies inside its array, on grid 0. -/
theorem xsize0_1 : ∀ t : Fin cfg0.N, ∀ l : Fin 16384, t.val * 16384 + l.val < 800000 ↔ l.val < win0_1.xsize (grid0.coords t) 0 := by
  have h : ∀ t : Fin grid0.N, win0_1.xsize (grid0.coords t) 0 = min 16384 (800000 - t.val * 16384) := by decide +kernel
  intro t
  refine fun l => ?_
  rw [h t]; have := l.isLt; omega

/-- How much of window 2's block lies inside its array, on grid 0. -/
theorem xsize0_2 : ∀ t : Fin cfg0.N, (∀ l : Fin 16384, t.val * 16384 + l.val < 800000 ↔ l.val < win0_2.xsize (grid0.coords t) 0) ∧ win0_2.xsize (grid0.coords t) 1 = 3 := by
  have h : ∀ t : Fin grid0.N, win0_2.xsize (grid0.coords t) 0 = min 16384 (800000 - t.val * 16384) ∧ win0_2.xsize (grid0.coords t) 1 = 3 := by decide +kernel
  intro t
  refine ⟨fun l => ?_, (h t).2⟩
  rw [(h t).1]; have := l.isLt; omega

/-- How much of window 3's block lies inside its array, on grid 0. -/
theorem xsize0_3 : ∀ t : Fin cfg0.N, ∀ l : Fin 16384, t.val * 16384 + l.val < 800000 ↔ l.val < win0_3.xsize (grid0.coords t) 0 := by
  have h : ∀ t : Fin grid0.N, win0_3.xsize (grid0.coords t) 0 = min 16384 (800000 - t.val * 16384) := by decide +kernel
  intro t
  refine fun l => ?_
  rw [h t]; have := l.isLt; omega

/-- How much of window 9's block lies inside its array, on grid 0. -/
theorem xsize0_9 : ∀ t : Fin cfg0.N, (∀ l : Fin 16384, t.val * 16384 + l.val < 800000 ↔ l.val < win0_9.xsize (grid0.coords t) 1) ∧ win0_9.xsize (grid0.coords t) 0 = 6 := by
  have h : ∀ t : Fin grid0.N, win0_9.xsize (grid0.coords t) 1 = min 16384 (800000 - t.val * 16384) ∧ win0_9.xsize (grid0.coords t) 0 = 6 := by decide +kernel
  intro t
  refine ⟨fun l => ?_, (h t).2⟩
  rw [(h t).1]; have := l.isLt; omega

/-- How much of window 0's block lies inside its array, on grid 1. -/
theorem xsize1_0 : ∀ t : Fin cfg1.N, (∀ l : Fin 16384, t.val * 16384 + l.val < 800000 ↔ l.val < win1_0.xsize (grid1.coords t) 1) ∧ win1_0.xsize (grid1.coords t) 0 = 6 := by
  have h : ∀ t : Fin grid1.N, win1_0.xsize (grid1.coords t) 1 = min 16384 (800000 - t.val * 16384) ∧ win1_0.xsize (grid1.coords t) 0 = 6 := by decide +kernel
  intro t
  refine ⟨fun l => ?_, (h t).2⟩
  rw [(h t).1]; have := l.isLt; omega

/-- How much of window 1's block lies inside its array, on grid 1. -/
theorem xsize1_1 : ∀ t : Fin cfg1.N, ∀ l : Fin 16384, t.val * 16384 + l.val < 800000 ↔ l.val < win1_1.xsize (grid1.coords t) 0 := by
  have h : ∀ t : Fin grid1.N, win1_1.xsize (grid1.coords t) 0 = min 16384 (800000 - t.val * 16384) := by decide +kernel
  intro t
  refine fun l => ?_
  rw [h t]; have := l.isLt; omega

/-- How much of window 4's block lies inside its array, on grid 1. -/
theorem xsize1_4 : ∀ t : Fin cfg1.N, (∀ l : Fin 16384, t.val * 16384 + l.val < 800000 ↔ l.val < win1_4.xsize (grid1.coords t) 0) ∧ win1_4.xsize (grid1.coords t) 1 = 6 := by
  have h : ∀ t : Fin grid1.N, win1_4.xsize (grid1.coords t) 0 = min 16384 (800000 - t.val * 16384) ∧ win1_4.xsize (grid1.coords t) 1 = 6 := by decide +kernel
  intro t
  refine ⟨fun l => ?_, (h t).2⟩
  rw [(h t).1]; have := l.isLt; omega

/-- What a fetch of window 0 on grid 0 leaves at a lane that holds an atom. -/
theorem fill0_0 (t : Fin cfg0.N) (d : S16384x3.Idx → EReal) (A : FVec Ideal S800000x3 .f32) (l : Fin 16384) (k : Fin 3) (h : t.val * 16384 + l.val < 800000) :
    win0_0.fill (grid0.coords t) d ((win0_0.blk t).view.read (Elt Ideal) A) (ix2 l k) = A (ix2 ⟨t.val * 16384 + l.val, h⟩ k) := by
  unfold Pipeline.Window.fill
  rw [dif_pos ((win0_0.moved_iff _ _).mpr fun a => by
    match a with
    | ⟨0, _⟩ => exact ((xsize0_0 t).1 l).mp h
    | ⟨1, _⟩ => exact lt_of_lt_of_eq k.isLt (xsize0_0 t).2.symm)]
  blk_ext [idx0 t]

/-- What a fetch of window 1 on grid 0 leaves at a lane that holds an atom. -/
theorem fill0_1 (t : Fin cfg0.N) (d : S16384.Idx → BitVec 32) (A : IVec S800000 32) (l : Fin 16384) (h : t.val * 16384 + l.val < 800000) :
    win0_1.fill (grid0.coords t) d ((win0_1.blk t).view.read (Elt Ideal) A) (ix1 l) = A (ix1 ⟨t.val * 16384 + l.val, h⟩) := by
  unfold Pipeline.Window.fill
  rw [dif_pos ((win0_1.moved_iff _ _).mpr fun a => by
    match a with
    | ⟨0, _⟩ => exact (xsize0_1 t l).mp h)]
  blk_ext [idx0 t]

/-- What a fetch of window 2 on grid 0 leaves at a lane that holds an atom. -/
theorem fill0_2 (t : Fin cfg0.N) (d : S16384x3.Idx → EReal) (A : FVec Ideal S800000x3 .f32) (l : Fin 16384) (k : Fin 3) (h : t.val * 16384 + l.val < 800000) :
    win0_2.fill (grid0.coords t) d ((win0_2.blk t).view.read (Elt Ideal) A) (ix2 l k) = A (ix2 ⟨t.val * 16384 + l.val, h⟩ k) := by
  unfold Pipeline.Window.fill
  rw [dif_pos ((win0_2.moved_iff _ _).mpr fun a => by
    match a with
    | ⟨0, _⟩ => exact ((xsize0_2 t).1 l).mp h
    | ⟨1, _⟩ => exact lt_of_lt_of_eq k.isLt (xsize0_2 t).2.symm)]
  blk_ext [idx0 t]

/-- What a fetch of window 3 on grid 0 leaves at a lane that holds an atom. -/
theorem fill0_3 (t : Fin cfg0.N) (d : S16384.Idx → EReal) (A : FVec Ideal S800000 .f32) (l : Fin 16384) (h : t.val * 16384 + l.val < 800000) :
    win0_3.fill (grid0.coords t) d ((win0_3.blk t).view.read (Elt Ideal) A) (ix1 l) = A (ix1 ⟨t.val * 16384 + l.val, h⟩) := by
  unfold Pipeline.Window.fill
  rw [dif_pos ((win0_3.moved_iff _ _).mpr fun a => by
    match a with
    | ⟨0, _⟩ => exact (xsize0_3 t l).mp h)]
  blk_ext [idx0 t]

/-- What a fetch of window 0 on grid 1 leaves at a lane that holds an atom. -/
theorem fill1_0 (t : Fin cfg1.N) (d : S6x16384.Idx → EReal) (A : FVec Ideal S6x800000 .f32) (j : Fin 6) (l : Fin 16384) (h : t.val * 16384 + l.val < 800000) :
    win1_0.fill (grid1.coords t) d ((win1_0.blk t).view.read (Elt Ideal) A) (ix2 j l) = A (ix2 j ⟨t.val * 16384 + l.val, h⟩) := by
  unfold Pipeline.Window.fill
  rw [dif_pos ((win1_0.moved_iff _ _).mpr fun a => by
    match a with
    | ⟨1, _⟩ => exact ((xsize1_0 t).1 l).mp h
    | ⟨0, _⟩ => exact lt_of_lt_of_eq j.isLt (xsize1_0 t).2.symm)]
  blk_ext [idx1 t]

/-- What a fetch of window 1 on grid 1 leaves at a lane that holds an atom. -/
theorem fill1_1 (t : Fin cfg1.N) (d : S16384.Idx → EReal) (A : FVec Ideal S800000 .f32) (l : Fin 16384) (h : t.val * 16384 + l.val < 800000) :
    win1_1.fill (grid1.coords t) d ((win1_1.blk t).view.read (Elt Ideal) A) (ix1 l) = A (ix1 ⟨t.val * 16384 + l.val, h⟩) := by
  unfold Pipeline.Window.fill
  rw [dif_pos ((win1_1.moved_iff _ _).mpr fun a => by
    match a with
    | ⟨0, _⟩ => exact (xsize1_1 t l).mp h)]
  blk_ext [idx1 t]

/-- A fetch of window 4 on grid 0 brings in its whole array. -/
theorem fill0_4 (t : Fin cfg0.N) (d : S64x3.Idx → EReal) (A : FVec Ideal S64x3 .f32) :
    win0_4.fill (grid0.coords t) d ((win0_4.blk t).view.read (Elt Ideal) A) = A := by
  have e : win0_4.fill (grid0.coords t) d ((win0_4.blk t).view.read (Elt Ideal) A) = (win0_4.blk t).view.read (Elt Ideal) A := rfl
  rw [e]
  funext y
  blk_ext [idxw0 t]

/-- A fetch of window 5 on grid 0 brings in its whole array. -/
theorem fill0_5 (t : Fin cfg0.N) (d : S3x64.Idx → EReal) (A : FVec Ideal S3x64 .f32) :
    win0_5.fill (grid0.coords t) d ((win0_5.blk t).view.read (Elt Ideal) A) = A := by
  have e : win0_5.fill (grid0.coords t) d ((win0_5.blk t).view.read (Elt Ideal) A) = (win0_5.blk t).view.read (Elt Ideal) A := rfl
  rw [e]
  funext y
  blk_ext [idxw0 t]

/-- A fetch of window 6 on grid 0 brings in its whole array. -/
theorem fill0_6 (t : Fin cfg0.N) (d : S64x100.Idx → EReal) (A : FVec Ideal S64x100 .bf16) :
    win0_6.fill (grid0.coords t) d ((win0_6.blk t).view.read (Elt Ideal) A) = A := by
  have e : win0_6.fill (grid0.coords t) d ((win0_6.blk t).view.read (Elt Ideal) A) = (win0_6.blk t).view.read (Elt Ideal) A := rfl
  rw [e]
  funext y
  blk_ext [idxw0 t]

/-- A fetch of window 7 on grid 0 brings in its whole array. -/
theorem fill0_7 (t : Fin cfg0.N) (d : S64x1.Idx → EReal) (A : FVec Ideal S64x1 .f32) :
    win0_7.fill (grid0.coords t) d ((win0_7.blk t).view.read (Elt Ideal) A) = A := by
  have e : win0_7.fill (grid0.coords t) d ((win0_7.blk t).view.read (Elt Ideal) A) = (win0_7.blk t).view.read (Elt Ideal) A := rfl
  rw [e]
  funext y
  blk_ext [idxw0 t]

/-- A fetch of window 8 on grid 0 brings in its whole array. -/
theorem fill0_8 (t : Fin cfg0.N) (d : S64x1.Idx → EReal) (A : FVec Ideal S64x1 .f32) :
    win0_8.fill (grid0.coords t) d ((win0_8.blk t).view.read (Elt Ideal) A) = A := by
  have e : win0_8.fill (grid0.coords t) d ((win0_8.blk t).view.read (Elt Ideal) A) = (win0_8.blk t).view.read (Elt Ideal) A := rfl
  rw [e]
  funext y
  blk_ext [idxw0 t]

/-- A fetch of window 2 on grid 1 brings in its whole array. -/
theorem fill1_2 (t : Fin cfg1.N) (d : S3x1.Idx → EReal) (A : FVec Ideal S3x1 .f32) :
    win1_2.fill (grid1.coords t) d ((win1_2.blk t).view.read (Elt Ideal) A) = A := by
  have e : win1_2.fill (grid1.coords t) d ((win1_2.blk t).view.read (Elt Ideal) A) = (win1_2.blk t).view.read (Elt Ideal) A := rfl
  rw [e]
  funext y
  blk_ext [idx1 t]

/-- A fetch of window 3 on grid 1 brings in its whole array. -/
theorem fill1_3 (t : Fin cfg1.N) (d : S3x1.Idx → EReal) (A : FVec Ideal S3x1 .f32) :
    win1_3.fill (grid1.coords t) d ((win1_3.blk t).view.read (Elt Ideal) A) = A := by
  have e : win1_3.fill (grid1.coords t) d ((win1_3.blk t).view.read (Elt Ideal) A) = (win1_3.blk t).view.read (Elt Ideal) A := rfl
  rw [e]
  funext y
  blk_ext [idx1 t]

/-- A lane of the part of the first kernel's output block that is written back holds an atom. -/
theorem out0_9 (t : Fin cfg0.N) (y : (win0_9.xblock (grid0.coords t)).Idx) :
    ∃ (j : Fin 6) (l : Fin 16384) (h : t.val * 16384 + l.val < 800000), win0_9.xinj (grid0.coords t) y = ix2 j l
      ∧ ∀ A : FVec Ideal S6x800000 .f32, (win0_9.blk t).view.read (Elt Ideal) A y = A (ix2 j ⟨t.val * 16384 + l.val, h⟩) := by
  have hj : (y 0).val < 6 := lt_of_lt_of_eq (y 0).isLt (xsize0_9 t).2
  have hl : (y 1).val < 16384 := lt_of_lt_of_le (y 1).isLt (win0_9.xsize_le _ 1)
  refine ⟨⟨(y 0).val, hj⟩, ⟨(y 1).val, hl⟩, ((xsize0_9 t).1 ⟨(y 1).val, hl⟩).mpr (y 1).isLt, funext fun a => ?_, fun A => ?_⟩
  · match a with
    | ⟨0, _⟩ => rfl
    | ⟨1, _⟩ => rfl
  · blk_ext [idx0 t]

/-- A lane of the part of the second kernel's output block that is written back holds an atom. -/
theorem out1_4 (t : Fin cfg1.N) (y : (win1_4.xblock (grid1.coords t)).Idx) :
    ∃ (l : Fin 16384) (j : Fin 6) (h : t.val * 16384 + l.val < 800000), win1_4.xinj (grid1.coords t) y = ix2 l j
      ∧ ∀ A : FVec Ideal S800000x6 .f32, (win1_4.blk t).view.read (Elt Ideal) A y = A (ix2 ⟨t.val * 16384 + l.val, h⟩ j) := by
  have hj : (y 1).val < 6 := lt_of_lt_of_eq (y 1).isLt (xsize1_4 t).2
  have hl : (y 0).val < 16384 := lt_of_lt_of_le (y 0).isLt (win1_4.xsize_le _ 0)
  refine ⟨⟨(y 0).val, hl⟩, ⟨(y 1).val, hj⟩, ((xsize1_4 t).1 ⟨(y 0).val, hl⟩).mpr (y 0).isLt, funext fun a => ?_, fun A => ?_⟩
  · match a with
    | ⟨0, _⟩ => rfl
    | ⟨1, _⟩ => rfl
  · blk_ext [idx1 t]

end Cert.KernelIdeal.Hand

end
-- ==== Proof.Exact0.lean ====
/-
  The first region, exactly, over the extended reals: what its body finds in every staging buffer and leaves in it, and from
  that the four arrays it writes.
-/
module

public import proofs.«01_k».proof.Proof.Vals
public import proofs.«01_k».proof.Proof.Geom
public import proofs.«01_k».proof.Proof.Frames

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

local notation "𝕄" => MT nD τ sig Unit (Elt Ideal) ℕ UU ℕ

variable (c : Dev nD) (V : Val1 Ideal c)

/-- The array of six rows, of the contents at the region's entry. -/
def rows0 : FVec Ideal S6x800000 .f32 :=
  stA (V main_arg0) (V main_arg3) (V main_arg1) (V main_arg4) (V main_call0_v0) (V main_arg6) (V main_call0_v2) (V main_arg9) (V main_call0_v3)
/-- The potential energy over the blocks up to `t`, of the contents at the region's entry. -/
def sumE0 (t : ℕ) : FVec Ideal S1x1 .f32 := accE (V main_arg0) (V main_arg3) (V main_call0_v0) (V main_call0_v2) (V main_arg9) (V main_call0_v3) t
/-- The kinetic sum over the blocks up to `t`, of the contents at the region's entry. -/
def sumK0 (t : ℕ) : FVec Ideal S1x1 .f32 := accK (V main_arg1) (V main_arg4) t
/-- The momentum sums over the blocks up to `t`, of the contents at the region's entry. -/
def sumP0 (t : ℕ) : FVec Ideal S3x1 .f32 := accP (V main_arg1) (V main_arg4) t

/-- What the first kernel's body leaves in every staging buffer. -/
def aft0 : Aft Ideal cfg0
  | ⟨0, _⟩ => fun t => win0_0.fill (grid0.coords t) (fun _ => (0 : EReal)) ((win0_0.blk t).view.read (Elt Ideal) (V main_arg0))
  | ⟨1, _⟩ => fun t => win0_1.fill (grid0.coords t) (fun _ => 0#32) ((win0_1.blk t).view.read (Elt Ideal) (V main_arg3))
  | ⟨2, _⟩ => fun t => win0_2.fill (grid0.coords t) (fun _ => (0 : EReal)) ((win0_2.blk t).view.read (Elt Ideal) (V main_arg1))
  | ⟨3, _⟩ => fun t => win0_3.fill (grid0.coords t) (fun _ => (0 : EReal)) ((win0_3.blk t).view.read (Elt Ideal) (V main_arg4))
  | ⟨4, _⟩ => fun _ => V main_call0_v0
  | ⟨5, _⟩ => fun _ => V main_arg6
  | ⟨6, _⟩ => fun _ => V main_call0_v2
  | ⟨7, _⟩ => fun _ => V main_arg9
  | ⟨8, _⟩ => fun _ => V main_call0_v3
  | ⟨9, _⟩ => fun t => win0_9.fill (grid0.coords t) (fun _ => (0 : EReal)) ((win0_9.blk t).view.read (Elt Ideal) (rows0 c V))
  | ⟨10, _⟩ => fun t => sumE0 c V t.val
  | ⟨11, _⟩ => fun t => sumK0 c V t.val
  | ⟨12, _⟩ => fun t => sumP0 c V t.val

/-- The first region's proof data. -/
abbrev D0 : Dat τ (Elt Ideal) Unit ℕ UU ℕ cfg0 c := dat0 c V (aft0 c V)

/-- What the body finds in window 0. -/
theorem found0_0 (t : Fin cfg0.N) (d : (cfg0.win 0).block.Idx → Elt Ideal (cfg0.win 0).elt) :
    (D0 c V).before 0 t d = win0_0.fill (grid0.coords t) d ((win0_0.blk t).view.read (Elt Ideal) (V main_arg0)) := by
  unfold Dat.before; rw [if_pos (fetch0_0 t)]; rfl
/-- What the body leaves in window 0 is what it found. -/
theorem back0_0 (t : Fin cfg0.N) (d : (cfg0.win 0).block.Idx → Elt Ideal (cfg0.win 0).elt) :
    win0_0.fill (grid0.coords t) ((D0 c V).before 0 t d) (win0_0.cut (grid0.coords t) (aft0 c V 0 t)) = (D0 c V).before 0 t d := by
  refine win0_0.fill_congr_cut _ ?_
  rw [found0_0]
  exact (win0_0.cut_fill _ _ _).trans (win0_0.cut_fill _ _ _).symm

/-- What the body finds in window 1. -/
theorem found0_1 (t : Fin cfg0.N) (d : (cfg0.win 1).block.Idx → Elt Ideal (cfg0.win 1).elt) :
    (D0 c V).before 1 t d = win0_1.fill (grid0.coords t) d ((win0_1.blk t).view.read (Elt Ideal) (V main_arg3)) := by
  unfold Dat.before; rw [if_pos (fetch0_1 t)]; rfl
/-- What the body leaves in window 1 is what it found. -/
theorem back0_1 (t : Fin cfg0.N) (d : (cfg0.win 1).block.Idx → Elt Ideal (cfg0.win 1).elt) :
    win0_1.fill (grid0.coords t) ((D0 c V).before 1 t d) (win0_1.cut (grid0.coords t) (aft0 c V 1 t)) = (D0 c V).before 1 t d := by
  refine win0_1.fill_congr_cut _ ?_
  rw [found0_1]
  exact (win0_1.cut_fill _ _ _).trans (win0_1.cut_fill _ _ _).symm

/-- What the body finds in window 2. -/
theorem found0_2 (t : Fin cfg0.N) (d : (cfg0.win 2).block.Idx → Elt Ideal (cfg0.win 2).elt) :
    (D0 c V).before 2 t d = win0_2.fill (grid0.coords t) d ((win0_2.blk t).view.read (Elt Ideal) (V main_arg1)) := by
  unfold Dat.before; rw [if_pos (fetch0_2 t)]; rfl
/-- What the body leaves in window 2 is what it found. -/
theorem back0_2 (t : Fin cfg0.N) (d : (cfg0.win 2).block.Idx → Elt Ideal (cfg0.win 2).elt) :
    win0_2.fill (grid0.coords t) ((D0 c V).before 2 t d) (win0_2.cut (grid0.coords t) (aft0 c V 2 t)) = (D0 c V).before 2 t d := by
  refine win0_2.fill_congr_cut _ ?_
  rw [found0_2]
  exact (win0_2.cut_fill _ _ _).trans (win0_2.cut_fill _ _ _).symm

/-- What the body finds in window 3. -/
theorem found0_3 (t : Fin cfg0.N) (d : (cfg0.win 3).block.Idx → Elt Ideal (cfg0.win 3).elt) :
    (D0 c V).before 3 t d = win0_3.fill (grid0.coords t) d ((win0_3.blk t).view.read (Elt Ideal) (V main_arg4)) := by
  unfold Dat.before; rw [if_pos (fetch0_3 t)]; rfl
/-- What the body leaves in window 3 is what it found. -/
theorem back0_3 (t : Fin cfg0.N) (d : (cfg0.win 3).block.Idx → Elt Ideal (cfg0.win 3).elt) :
    win0_3.fill (grid0.coords t) ((D0 c V).before 3 t d) (win0_3.cut (grid0.coords t) (aft0 c V 3 t)) = (D0 c V).before 3 t d := by
  refine win0_3.fill_congr_cut _ ?_
  rw [found0_3]
  exact (win0_3.cut_fill _ _ _).trans (win0_3.cut_fill _ _ _).symm

/-- The body finds window 4's whole array at every point. -/
theorem found0_4 (t : Fin cfg0.N) (d : (cfg0.win 4).block.Idx → Elt Ideal (cfg0.win 4).elt) : (D0 c V).before 4 t d = V main_call0_v0 := by
  by_cases hf : win0_4.fetch t = true
  · unfold Dat.before; rw [if_pos hf]; exact fill0_4 t d _
  · have ht : t.val ≠ 0 := fun h => hf ((fetch0_4 t).mpr (by omega))
    rw [(D0 c V).before_of_pos 4 t ht (Bool.eq_false_iff.mpr hf) d, if_neg (by exact Bool.false_ne_true)]
    rfl

/-- The body finds window 5's whole array at every point. -/
theorem found0_5 (t : Fin cfg0.N) (d : (cfg0.win 5).block.Idx → Elt Ideal (cfg0.win 5).elt) : (D0 c V).before 5 t d = V main_arg6 := by
  by_cases hf : win0_5.fetch t = true
  · unfold Dat.before; rw [if_pos hf]; exact fill0_5 t d _
  · have ht : t.val ≠ 0 := fun h => hf ((fetch0_5 t).mpr (by omega))
    rw [(D0 c V).before_of_pos 5 t ht (Bool.eq_false_iff.mpr hf) d, if_neg (by exact Bool.false_ne_true)]
    rfl

/-- The body finds window 6's whole array at every point. -/
theorem found0_6 (t : Fin cfg0.N) (d : (cfg0.win 6).block.Idx → Elt Ideal (cfg0.win 6).elt) : (D0 c V).before 6 t d = V main_call0_v2 := by
  by_cases hf : win0_6.fetch t = true
  · unfold Dat.before; rw [if_pos hf]; exact fill0_6 t d _
  · have ht : t.val ≠ 0 := fun h => hf ((fetch0_6 t).mpr (by omega))
    rw [(D0 c V).before_of_pos 6 t ht (Bool.eq_false_iff.mpr hf) d, if_neg (by exact Bool.false_ne_true)]
    rfl

/-- The body finds window 7's whole array at every point. -/
theorem found0_7 (t : Fin cfg0.N) (d : (cfg0.win 7).block.Idx → Elt Ideal (cfg0.win 7).elt) : (D0 c V).before 7 t d = V main_arg9 := by
  by_cases hf : win0_7.fetch t = true
  · unfold Dat.before; rw [if_pos hf]; exact fill0_7 t d _
  · have ht : t.val ≠ 0 := fun h => hf ((fetch0_7 t).mpr (by omega))
    rw [(D0 c V).before_of_pos 7 t ht (Bool.eq_false_iff.mpr hf) d, if_neg (by exact Bool.false_ne_true)]
    rfl

/-- The body finds window 8's whole array at every point. -/
theorem found0_8 (t : Fin cfg0.N) (d : (cfg0.win 8).block.Idx → Elt Ideal (cfg0.win 8).elt) : (D0 c V).before 8 t d = V main_call0_v3 := by
  by_cases hf : win0_8.fetch t = true
  · unfold Dat.before; rw [if_pos hf]; exact fill0_8 t d _
  · have ht : t.val ≠ 0 := fun h => hf ((fetch0_8 t).mpr (by omega))
    rw [(D0 c V).before_of_pos 8 t ht (Bool.eq_false_iff.mpr hf) d, if_neg (by exact Bool.false_ne_true)]
    rfl

/-- After the first point the body finds in window 10 the sum over the blocks before. -/
theorem found0_10 (t : Fin cfg0.N) (ht : t.val ≠ 0) (d : (cfg0.win 10).block.Idx → Elt Ideal (cfg0.win 10).elt) : (D0 c V).before 10 t d = sumE0 c V (t.val - 1) := by
  have hN : t.val < 49 := t.isLt
  have hfl : (cfg0.win 10).flush ⟨t.val - 1, Nat.lt_of_le_of_lt (Nat.sub_le _ _) t.isLt⟩ ≠ true := fun h => by
    have := (flush0_10 ⟨t.val - 1, Nat.lt_of_le_of_lt (Nat.sub_le _ _) t.isLt⟩).mp h
    dsimp only at this; omega
  rw [(D0 c V).before_of_pos 10 t ht rfl d, if_neg hfl]
  rfl

/-- After the first point the body finds in window 11 the sum over the blocks before. -/
theorem found0_11 (t : Fin cfg0.N) (ht : t.val ≠ 0) (d : (cfg0.win 11).block.Idx → Elt Ideal (cfg0.win 11).elt) : (D0 c V).before 11 t d = sumK0 c V (t.val - 1) := by
  have hN : t.val < 49 := t.isLt
  have hfl : (cfg0.win 11).flush ⟨t.val - 1, Nat.lt_of_le_of_lt (Nat.sub_le _ _) t.isLt⟩ ≠ true := fun h => by
    have := (flush0_11 ⟨t.val - 1, Nat.lt_of_le_of_lt (Nat.sub_le _ _) t.isLt⟩).mp h
    dsimp only at this; omega
  rw [(D0 c V).before_of_pos 11 t ht rfl d, if_neg hfl]
  rfl

/-- After the first point the body finds in window 12 the sum over the blocks before. -/
theorem found0_12 (t : Fin cfg0.N) (ht : t.val ≠ 0) (d : (cfg0.win 12).block.Idx → Elt Ideal (cfg0.win 12).elt) : (D0 c V).before 12 t d = sumP0 c V (t.val - 1) := by
  have hN : t.val < 49 := t.isLt
  have hfl : (cfg0.win 12).flush ⟨t.val - 1, Nat.lt_of_le_of_lt (Nat.sub_le _ _) t.isLt⟩ ≠ true := fun h => by
    have := (flush0_12 ⟨t.val - 1, Nat.lt_of_le_of_lt (Nat.sub_le _ _) t.isLt⟩).mp h
    dsimp only at this; omega
  rw [(D0 c V).before_of_pos 12 t ht rfl d, if_neg hfl]
  rfl

/-- The accumulators restart at the first point alone. -/
theorem first_iff : ∀ t : Fin cfg0.N, first (grid0.coords t) = 1#1 ↔ t.val = 0 :=
  (by decide +kernel : ∀ t : Fin grid0.N, _)

/-- The lanes of window 0 that hold an atom. -/
theorem lane0_0 (t : Fin cfg0.N) (d : (cfg0.win 0).block.Idx → Elt Ideal (cfg0.win 0).elt) (l : Fin 16384) (k : Fin 3) (h : t.val * 16384 + l.val < 800000) :
    (D0 c V).before 0 t d (ix2 l k) = V main_arg0 (ix2 ⟨t.val * 16384 + l.val, h⟩ k) := by
  rw [found0_0]; exact fill0_0 t d _ l k h
/-- The lanes of window 1 that hold an atom. -/
theorem lane0_1 (t : Fin cfg0.N) (d : (cfg0.win 1).block.Idx → Elt Ideal (cfg0.win 1).elt) (l : Fin 16384) (h : t.val * 16384 + l.val < 800000) :
    (D0 c V).before 1 t d (ix1 l) = V main_arg3 (ix1 ⟨t.val * 16384 + l.val, h⟩) := by
  rw [found0_1]; exact fill0_1 t d _ l h
/-- The lanes of window 2 that hold an atom. -/
theorem lane0_2 (t : Fin cfg0.N) (d : (cfg0.win 2).block.Idx → Elt Ideal (cfg0.win 2).elt) (l : Fin 16384) (k : Fin 3) (h : t.val * 16384 + l.val < 800000) :
    (D0 c V).before 2 t d (ix2 l k) = V main_arg1 (ix2 ⟨t.val * 16384 + l.val, h⟩ k) := by
  rw [found0_2]; exact fill0_2 t d _ l k h
/-- The lanes of window 3 that hold an atom. -/
theorem lane0_3 (t : Fin cfg0.N) (d : (cfg0.win 3).block.Idx → Elt Ideal (cfg0.win 3).elt) (l : Fin 16384) (h : t.val * 16384 + l.val < 800000) :
    (D0 c V).before 3 t d (ix1 l) = V main_arg4 (ix1 ⟨t.val * 16384 + l.val, h⟩) := by
  rw [found0_3]; exact fill0_3 t d _ l h

section Blocks

variable (t : Fin cfg0.N) (e0 : (cfg0.win 0).block.Idx → Elt Ideal (cfg0.win 0).elt) (e1 : (cfg0.win 1).block.Idx → Elt Ideal (cfg0.win 1).elt)
  (e2 : (cfg0.win 2).block.Idx → Elt Ideal (cfg0.win 2).elt) (e3 : (cfg0.win 3).block.Idx → Elt Ideal (cfg0.win 3).elt)

/-- The block of six rows is the array's, on the part written back. -/
theorem back0_9 : win0_9.fill (grid0.coords t)
      (stOut (F := Ideal) ((D0 c V).before 0 t e0) ((D0 c V).before 1 t e1) ((D0 c V).before 2 t e2) ((D0 c V).before 3 t e3) (V main_call0_v0) (V main_arg6) (V main_call0_v2) (V main_arg9) (V main_call0_v3))
      (win0_9.cut (grid0.coords t) (aft0 c V 9 t))
    = stOut (F := Ideal) ((D0 c V).before 0 t e0) ((D0 c V).before 1 t e1) ((D0 c V).before 2 t e2) ((D0 c V).before 3 t e3) (V main_call0_v0) (V main_arg6) (V main_call0_v2) (V main_arg9) (V main_call0_v3) := by
  refine win0_9.fill_congr_cut _ ?_
  refine Eq.trans ?_ (win0_9.cut_fill _ _ _).symm
  funext y
  obtain ⟨j, l, h, ey, er⟩ := out0_9 t y
  rw [er]
  refine (congrArg _ ey).trans ?_
  exact stOut_in (V main_arg0) (V main_arg3) (V main_arg1) (V main_arg4) (V main_call0_v0) (V main_arg6) (V main_call0_v2) (V main_arg9) (V main_call0_v3) t
    _ _ _ _ (lane0_0 c V t e0) (lane0_1 c V t e1) (lane0_2 c V t e2) (lane0_3 c V t e3) j l h

/-- The potential sum after the first point. -/
theorem next0_10 (ht : t.val = 0) : stepE (F := Ideal) (grid0.coords t) ((D0 c V).before 0 t e0) ((D0 c V).before 1 t e1) (V main_call0_v0) (V main_call0_v2) (V main_arg9) (V main_call0_v3) (k0_pay2 (F := Ideal))
    = aft0 c V 10 t := by
  refine (stepE_in (V main_arg0) (V main_arg3) (V main_call0_v0) (V main_call0_v2) (V main_arg9) (V main_call0_v3) t (grid0.coords t) (idx0 t).2.2.2.2.2 _ _ (lane0_0 c V t e0) (lane0_1 c V t e1) _).trans ?_
  show _ = sumE0 c V t.val
  rw [ht]; exact accE_zero ..
/-- The potential sum after a later point. -/
theorem more0_10 (ht : t.val ≠ 0) : stepE (F := Ideal) (grid0.coords t) ((D0 c V).before 0 t e0) ((D0 c V).before 1 t e1) (V main_call0_v0) (V main_call0_v2) (V main_arg9) (V main_call0_v3) (sumE0 c V (t.val - 1))
    = aft0 c V 10 t := by
  refine (stepE_in (V main_arg0) (V main_arg3) (V main_call0_v0) (V main_call0_v2) (V main_arg9) (V main_call0_v3) t (grid0.coords t) (idx0 t).2.2.2.2.2 _ _ (lane0_0 c V t e0) (lane0_1 c V t e1) _).trans ?_
  show _ = sumE0 c V t.val
  obtain ⟨n, hn⟩ := Nat.exists_eq_succ_of_ne_zero ht
  rw [hn]; exact accE_succ ..
/-- The kinetic sum after the first point. -/
theorem next0_11 (ht : t.val = 0) : stepK (F := Ideal) (grid0.coords t) ((D0 c V).before 2 t e2) ((D0 c V).before 3 t e3) (k0_pay3 (F := Ideal)) = aft0 c V 11 t := by
  refine (stepK_in (V main_arg1) (V main_arg4) t (grid0.coords t) (idx0 t).2.2.2.2.2 _ _ (lane0_2 c V t e2) (lane0_3 c V t e3) _).trans ?_
  show _ = sumK0 c V t.val
  rw [ht]; exact accK_zero ..
/-- The kinetic sum after a later point. -/
theorem more0_11 (ht : t.val ≠ 0) : stepK (F := Ideal) (grid0.coords t) ((D0 c V).before 2 t e2) ((D0 c V).before 3 t e3) (sumK0 c V (t.val - 1)) = aft0 c V 11 t := by
  refine (stepK_in (V main_arg1) (V main_arg4) t (grid0.coords t) (idx0 t).2.2.2.2.2 _ _ (lane0_2 c V t e2) (lane0_3 c V t e3) _).trans ?_
  show _ = sumK0 c V t.val
  obtain ⟨n, hn⟩ := Nat.exists_eq_succ_of_ne_zero ht
  rw [hn]; exact accK_succ ..
/-- The momentum sums after the first point. -/
theorem next0_12 (ht : t.val = 0) : stepP (F := Ideal) (grid0.coords t) ((D0 c V).before 2 t e2) ((D0 c V).before 3 t e3) (k0_pay4 (F := Ideal)) = aft0 c V 12 t := by
  refine (stepP_in (V main_arg1) (V main_arg4) t (grid0.coords t) (idx0 t).2.2.2.2.2 _ _ (lane0_2 c V t e2) (lane0_3 c V t e3) _).trans ?_
  show _ = sumP0 c V t.val
  rw [ht]; exact accP_zero ..
/-- The momentum sums after a later point. -/
theorem more0_12 (ht : t.val ≠ 0) : stepP (F := Ideal) (grid0.coords t) ((D0 c V).before 2 t e2) ((D0 c V).before 3 t e3) (sumP0 c V (t.val - 1)) = aft0 c V 12 t := by
  refine (stepP_in (V main_arg1) (V main_arg4) t (grid0.coords t) (idx0 t).2.2.2.2.2 _ _ (lane0_2 c V t e2) (lane0_3 c V t e3) _).trans ?_
  show _ = sumP0 c V t.val
  obtain ⟨n, hn⟩ := Nat.exists_eq_succ_of_ne_zero ht
  rw [hn]; exact accP_succ ..

end Blocks

/-- The first kernel does exactly this at every point. -/
theorem exact0 : BodyObligationLoose (D0 c V) (defs₀ (F := Ideal)) Variants.none () Set.univ (fun _ => false) := fun t => by
  rw [bigSep_W0, bigSep_W0]; dsimp only; rw [row0]
  rw [show (D0 c V).Φ t.castSucc = (D0 c V).Φ t.succ from rfl,
    show (D0 c V).owesAt () t.castSucc = (D0 c V).owesAt () t.succ from rfl]
  iintro ⟨HΦ, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  rw [found0_4 c V t e4, found0_5 c V t e5, found0_6 c V t e6, found0_7 c V t e7, found0_8 c V t e8]
  by_cases hi : first (grid0.coords t) = 1#1
  · have h := (first_iff t).mp hi
    iapply (body0_first c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) ((D0 c V).before 0 t e0) ((D0 c V).before 1 t e1) ((D0 c V).before 2 t e2) ((D0 c V).before 3 t e3) (V main_call0_v0) (V main_arg6) (V main_call0_v2) (V main_arg9) (V main_call0_v3) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    rw [next0_10 c V t e0 e1 h, next0_11 c V t e2 e3 h, next0_12 c V t e2 e3 h]
    isplitl [HΦ]; · iexact HΦ
    isplitl [HO]; · iexact HO
    isplitl [H0]; · iexists ((D0 c V).before 0 t e0); iapply (BIBase.Entails.of_eq (congrArg (fun X => owns (c : Thread nD τ) (win0_0.stage (cfg0.slots t 0)) fullShare X) (back0_0 c V t e0).symm)); iexact H0
    isplitl [H1]; · iexists ((D0 c V).before 1 t e1); iapply (BIBase.Entails.of_eq (congrArg (fun X => owns (c : Thread nD τ) (win0_1.stage (cfg0.slots t 1)) fullShare X) (back0_1 c V t e1).symm)); iexact H1
    isplitl [H2]; · iexists ((D0 c V).before 2 t e2); iapply (BIBase.Entails.of_eq (congrArg (fun X => owns (c : Thread nD τ) (win0_2.stage (cfg0.slots t 2)) fullShare X) (back0_2 c V t e2).symm)); iexact H2
    isplitl [H3]; · iexists ((D0 c V).before 3 t e3); iapply (BIBase.Entails.of_eq (congrArg (fun X => owns (c : Thread nD τ) (win0_3.stage (cfg0.slots t 3)) fullShare X) (back0_3 c V t e3).symm)); iexact H3
    isplitl [H4]; · iexact H4
    isplitl [H5]; · iexact H5
    isplitl [H6]; · iexact H6
    isplitl [H7]; · iexact H7
    isplitl [H8]; · iexact H8
    isplitl [H9]; · iexists _; iapply (BIBase.Entails.of_eq (congrArg (fun X => owns (c : Thread nD τ) (win0_9.stage (cfg0.slots t 9)) fullShare X) (back0_9 c V t e0 e1 e2 e3).symm)); iexact H9
    isplitl [H10]; · iexact H10
    isplitl [H11]; · iexact H11
    iexact H12
  · have h := mt (first_iff t).mpr hi
    rw [found0_10 c V t h e10, found0_11 c V t h e11, found0_12 c V t h e12]
    iapply (body0_later c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) ((D0 c V).before 0 t e0) ((D0 c V).before 1 t e1) ((D0 c V).before 2 t e2) ((D0 c V).before 3 t e3) (V main_call0_v0) (V main_arg6) (V main_call0_v2) (V main_arg9) (V main_call0_v3) (sumE0 c V (t.val - 1)) (sumK0 c V (t.val - 1)) (sumP0 c V (t.val - 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    iintro ⟨H0, H1, H2, H3, H4, H5, H6, H7, H8, H9, H10, H11, H12⟩
    rw [more0_10 c V t e0 e1 h, more0_11 c V t e2 e3 h, more0_12 c V t e2 e3 h]
    isplitl [HΦ]; · iexact HΦ
    isplitl [HO]; · iexact HO
    isplitl [H0]; · iexists ((D0 c V).before 0 t e0); iapply (BIBase.Entails.of_eq (congrArg (fun X => owns (c : Thread nD τ) (win0_0.stage (cfg0.slots t 0)) fullShare X) (back0_0 c V t e0).symm)); iexact H0
    isplitl [H1]; · iexists ((D0 c V).before 1 t e1); iapply (BIBase.Entails.of_eq (congrArg (fun X => owns (c : Thread nD τ) (win0_1.stage (cfg0.slots t 1)) fullShare X) (back0_1 c V t e1).symm)); iexact H1
    isplitl [H2]; · iexists ((D0 c V).before 2 t e2); iapply (BIBase.Entails.of_eq (congrArg (fun X => owns (c : Thread nD τ) (win0_2.stage (cfg0.slots t 2)) fullShare X) (back0_2 c V t e2).symm)); iexact H2
    isplitl [H3]; · iexists ((D0 c V).before 3 t e3); iapply (BIBase.Entails.of_eq (congrArg (fun X => owns (c : Thread nD τ) (win0_3.stage (cfg0.slots t 3)) fullShare X) (back0_3 c V t e3).symm)); iexact H3
    isplitl [H4]; · iexact H4
    isplitl [H5]; · iexact H5
    isplitl [H6]; · iexact H6
    isplitl [H7]; · iexact H7
    isplitl [H8]; · iexact H8
    isplitl [H9]; · iexists _; iapply (BIBase.Entails.of_eq (congrArg (fun X => owns (c : Thread nD τ) (win0_9.stage (cfg0.slots t 9)) fullShare X) (back0_9 c V t e0 e1 e2 e3).symm)); iexact H9
    isplitl [H10]; · iexact H10
    isplitl [H11]; · iexact H11
    iexact H12

/-- The array of six rows the region leaves. -/
theorem arr0_9 : (D0 c V).arrAt 9 cfg0.N = rows0 c V :=
  Dat.arrAt_eq_of_covers (dat := D0 c V) 9 (rows0 c V) (by decide +kernel) fun t hf y => by
    exact congrFun (win0_9.cut_fill (grid0.coords t) (fun _ => (0 : EReal)) ((win0_9.blk t).view.read (Elt Ideal) (rows0 c V))) y

/-- The potential sum the region leaves. -/
theorem arr0_10 : (D0 c V).arrAt 10 cfg0.N = sumE0 c V 48 :=
  Dat.arrAt_eq_of_after_last (dat := D0 c V) 10 ⟨48, by decide⟩ (by decide +kernel) (sumE0 c V 48) fun j => by
    rfl
/-- The kinetic sum the region leaves. -/
theorem arr0_11 : (D0 c V).arrAt 11 cfg0.N = sumK0 c V 48 :=
  Dat.arrAt_eq_of_after_last (dat := D0 c V) 11 ⟨48, by decide⟩ (by decide +kernel) (sumK0 c V 48) fun j => by
    rfl
/-- The momentum sums the region leaves. -/
theorem arr0_12 : (D0 c V).arrAt 12 cfg0.N = sumP0 c V 48 :=
  Dat.arrAt_eq_of_after_last (dat := D0 c V) 12 ⟨48, by decide⟩ (by decide +kernel) (sumP0 c V 48) fun j => by
    refine (cast_eq _ _).trans ?_
    refine (show (D0 c V).after 12 ⟨48, by decide⟩ _ = sumP0 c V 48 _ from rfl).trans ?_
    exact congrArg (sumP0 c V 48) (funext fun a => Fin.ext rfl)

end Cert.KernelIdeal.Hand

end
-- ==== Proof.Exact1.lean ====
/-
  The second region, exactly, over the extended reals: what its body finds in every staging buffer and leaves in it, and from
  that the array it writes.
-/
module

public import proofs.«01_k».proof.Proof.Pay
public import proofs.«01_k».proof.Proof.Geom
public import proofs.«01_k».proof.Proof.Frames

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

local notation "𝕄" => MT nD τ sig Unit (Elt Ideal) ℕ UU ℕ

/-- The second result at atom `n` and column `j`, from the six rows, the masses, the scaled energy and the momenta. -/
def jN (st : FVec Ideal S6x800000 .f32) (ma : FVec Ideal S800000 .f32) (es ps : FVec Ideal S3x1 .f32) (n : Fin 800000) (j : Fin 6) : EReal :=
  if h : (j : ℕ) < 3 then st (ix2 j n) * es (ix2 ⟨j, h⟩ 0) + ma (ix1 n) * ps (ix2 ⟨j, h⟩ 0)
  else st (ix2 j n) * es (ix2 ⟨j - 3, by omega⟩ 0)

/-- The second result, whole. -/
def jA (st : FVec Ideal S6x800000 .f32) (ma : FVec Ideal S800000 .f32) (es ps : FVec Ideal S3x1 .f32) : FVec Ideal S800000x6 .f32 :=
  fun i => jN st ma es ps (i 0) (i 1)

variable (c : Dev nD) (V : Val1 Ideal c)

/-- The second result, of the contents at the region's entry. -/
def res1 : FVec Ideal S800000x6 .f32 := jA (V main_call0_v4_0) (V main_arg4) (V main_call0_v17) (V main_call0_v4_3)

/-- What the second kernel's body leaves in every staging buffer. -/
def aft1 : Aft Ideal cfg1
  | ⟨0, _⟩ => fun t => win1_0.fill (grid1.coords t) (fun _ => (0 : EReal)) ((win1_0.blk t).view.read (Elt Ideal) (V main_call0_v4_0))
  | ⟨1, _⟩ => fun t => win1_1.fill (grid1.coords t) (fun _ => (0 : EReal)) ((win1_1.blk t).view.read (Elt Ideal) (V main_arg4))
  | ⟨2, _⟩ => fun _ => V main_call0_v17
  | ⟨3, _⟩ => fun _ => V main_call0_v4_3
  | ⟨4, _⟩ => fun t => win1_4.fill (grid1.coords t) (fun _ => (0 : EReal)) ((win1_4.blk t).view.read (Elt Ideal) (res1 c V))

/-- The second region's proof data. -/
abbrev D1 : Dat τ (Elt Ideal) Unit ℕ UU ℕ cfg1 c := dat1 c V (aft1 c V)

/-- What the body finds in window 0. -/
theorem found1_0 (t : Fin cfg1.N) (d : (cfg1.win 0).block.Idx → Elt Ideal (cfg1.win 0).elt) :
    (D1 c V).before 0 t d = win1_0.fill (grid1.coords t) d ((win1_0.blk t).view.read (Elt Ideal) (V main_call0_v4_0)) := by
  unfold Dat.before; rw [if_pos (fetch1_0 t)]; rfl
/-- What the body leaves in window 0 is what it found. -/
theorem back1_0 (t : Fin cfg1.N) (d : (cfg1.win 0).block.Idx → Elt Ideal (cfg1.win 0).elt) :
    win1_0.fill (grid1.coords t) ((D1 c V).before 0 t d) (win1_0.cut (grid1.coords t) (aft1 c V 0 t)) = (D1 c V).before 0 t d := by
  refine win1_0.fill_congr_cut _ ?_
  rw [found1_0]
  exact (win1_0.cut_fill _ _ _).trans (win1_0.cut_fill _ _ _).symm

/-- What the body finds in window 1. -/
theorem found1_1 (t : Fin cfg1.N) (d : (cfg1.win 1).block.Idx → Elt Ideal (cfg1.win 1).elt) :
    (D1 c V).before 1 t d = win1_1.fill (grid1.coords t) d ((win1_1.blk t).view.read (Elt Ideal) (V main_arg4)) := by
  unfold Dat.before; rw [if_pos (fetch1_1 t)]; rfl
/-- What the body leaves in window 1 is what it found. -/
theorem back1_1 (t : Fin cfg1.N) (d : (cfg1.win 1).block.Idx → Elt Ideal (cfg1.win 1).elt) :
    win1_1.fill (grid1.coords t) ((D1 c V).before 1 t d) (win1_1.cut (grid1.coords t) (aft1 c V 1 t)) = (D1 c V).before 1 t d := by
  refine win1_1.fill_congr_cut _ ?_
  rw [found1_1]
  exact (win1_1.cut_fill _ _ _).trans (win1_1.cut_fill _ _ _).symm

/-- The body finds window 2's whole array at every point. -/
theorem found1_2 (t : Fin cfg1.N) (d : (cfg1.win 2).block.Idx → Elt Ideal (cfg1.win 2).elt) : (D1 c V).before 2 t d = V main_call0_v17 := by
  by_cases hf : win1_2.fetch t = true
  · unfold Dat.before; rw [if_pos hf]; exact fill1_2 t d _
  · have ht : t.val ≠ 0 := fun h => hf ((fetch1_2 t).mpr (by omega))
    rw [(D1 c V).before_of_pos 2 t ht (Bool.eq_false_iff.mpr hf) d, if_neg (by exact Bool.false_ne_true)]
    rfl

/-- The body finds window 3's whole array at every point. -/
theorem found1_3 (t : Fin cfg1.N) (d : (cfg1.win 3).block.Idx → Elt Ideal (cfg1.win 3).elt) : (D1 c V).before 3 t d = V main_call0_v4_3 := by
  by_cases hf : win1_3.fetch t = true
  · unfold Dat.before; rw [if_pos hf]; exact fill1_3 t d _
  · have ht : t.val ≠ 0 := fun h => hf ((fetch1_3 t).mpr (by omega))
    rw [(D1 c V).before_of_pos 3 t ht (Bool.eq_false_iff.mpr hf) d, if_neg (by exact Bool.false_ne_true)]
    rfl

/-- The block written is the result's, on the part written back. -/
theorem back1_4 (t : Fin cfg1.N) (e0 : (cfg1.win 0).block.Idx → Elt Ideal (cfg1.win 0).elt) (e1 : (cfg1.win 1).block.Idx → Elt Ideal (cfg1.win 1).elt) :
    win1_4.fill (grid1.coords t) (k1_pay1 (F := Ideal) (V main_call0_v17) (V main_call0_v4_3) ((D1 c V).before 1 t e1) ((D1 c V).before 0 t e0)) (win1_4.cut (grid1.coords t) (aft1 c V 4 t))
    = k1_pay1 (F := Ideal) (V main_call0_v17) (V main_call0_v4_3) ((D1 c V).before 1 t e1) ((D1 c V).before 0 t e0) := by
  refine win1_4.fill_congr_cut _ ?_
  refine Eq.trans ?_ (win1_4.cut_fill _ _ _).symm
  funext y
  obtain ⟨l, j, h, ey, er⟩ := out1_4 t y
  rw [er]
  refine (congrArg _ ey).trans ?_
  refine (jOut_at _ _ _ _ l j).trans ?_
  show _ = jN _ _ _ _ ⟨t.val * 16384 + l.val, h⟩ j
  unfold jN
  have a0 : ∀ j : Fin 6, (D1 c V).before 0 t e0 (ix2 j l) = V main_call0_v4_0 (ix2 j ⟨t.val * 16384 + l.val, h⟩) := fun j => by
    rw [found1_0]; exact fill1_0 t e0 _ j l h
  have a1 : (D1 c V).before 1 t e1 (ix1 l) = V main_arg4 (ix1 ⟨t.val * 16384 + l.val, h⟩) := by
    rw [found1_1]; exact fill1_1 t e1 _ l h
  rw [a0, a1]

/-- The second kernel does exactly this at every point. -/
theorem exact1 : BodyObligationLoose (D1 c V) (defs₀ (F := Ideal)) Variants.none () Set.univ (fun _ => false) := fun t => by
  rw [bigSep_W1, bigSep_W1]; dsimp only; rw [row1]
  rw [show (D1 c V).Φ t.castSucc = (D1 c V).Φ t.succ from rfl,
    show (D1 c V).owesAt () t.castSucc = (D1 c V).owesAt () t.succ from rfl]
  iintro ⟨HΦ, HO, ⟨%e0, H0⟩, ⟨%e1, H1⟩, ⟨%e2, H2⟩, ⟨%e3, H3⟩, ⟨%e4, H4⟩⟩
  rw [found1_2 c V t e2, found1_3 c V t e3]
  iapply (body1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) ((D1 c V).before 0 t e0) ((D1 c V).before 1 t e1) (V main_call0_v17) (V main_call0_v4_3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [HO]; · iexact HO
  isplitl [H0]; · iexists ((D1 c V).before 0 t e0); iapply (BIBase.Entails.of_eq (congrArg (fun X => owns (c : Thread nD τ) (win1_0.stage (cfg1.slots t 0)) fullShare X) (back1_0 c V t e0).symm)); iexact H0
  isplitl [H1]; · iexists ((D1 c V).before 1 t e1); iapply (BIBase.Entails.of_eq (congrArg (fun X => owns (c : Thread nD τ) (win1_1.stage (cfg1.slots t 1)) fullShare X) (back1_1 c V t e1).symm)); iexact H1
  isplitl [H2]; · iexact H2
  isplitl [H3]; · iexact H3
  iexists _; iapply (BIBase.Entails.of_eq (congrArg (fun X => owns (c : Thread nD τ) (win1_4.stage (cfg1.slots t 4)) fullShare X) (back1_4 c V t e0 e1).symm)); iexact H4

/-- The array the region leaves. -/
theorem arr1_4 : (D1 c V).arrAt 4 cfg1.N = res1 c V :=
  Dat.arrAt_eq_of_covers (dat := D1 c V) 4 (res1 c V) (by decide +kernel) fun t hf y => by
    exact congrFun (win1_4.cut_fill (grid1.coords t) (fun _ => (0 : EReal)) ((win1_4.blk t).view.read (Elt Ideal) (res1 c V))) y

end Cert.KernelIdeal.Hand

end
-- ==== Proof.Kern.lean ====
/-
  The kernel's whole program over the extended reals: the values of its host operations, and its two results as closed terms
  of the arguments.
-/
module

public import proofs.«01_k».proof.Proof.Exact0
public import proofs.«01_k».proof.Proof.Exact1
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (outs : Outs (F := Ideal)) (c : Dev nD)

/-- The first weights, transposed. -/
def wtV : FVec Ideal S64x3 .f32 := transpose S64x3 [1, 0] (m ((c : Thread nD τ).loc main_arg6)) transposes_S3x64_S64x3_1_0
/-- The embedding, transposed. -/
def etV : FVec Ideal S64x100 .bf16 := truncf (F := Ideal) .bf16 (transpose S64x100 [1, 0] (m ((c : Thread nD τ).loc main_arg8)) transposes_S100x64_S64x100_1_0) bitsLt_bf16_f32
/-- The hidden bias as a column. -/
def bcV : FVec Ideal S64x1 .f32 := broadcastInDim S64x1 ![0] bcast_S64_S64x1_0 (m ((c : Thread nD τ).loc main_arg7))

/-- The first region reads the transposed first weights. -/
theorem entry_v0 : W1 m c main_call0_v0 = wtV m c := by
  show StableHlo.after hostOps0 (V0 m c) (Proc.devRef .tc main_call0_v0) = _
  entry_read
  rfl
/-- The first region reads the transposed embedding. -/
theorem entry_v2 : W1 m c main_call0_v2 = etV m c := by
  show StableHlo.after hostOps0 (V0 m c) (Proc.devRef .tc main_call0_v2) = _
  entry_read
  rfl
/-- The first region reads the hidden bias as a column. -/
theorem entry_v3 : W1 m c main_call0_v3 = bcV m c := by
  show StableHlo.after hostOps0 (V0 m c) (Proc.devRef .tc main_call0_v3) = _
  entry_read
  rfl

/-- The transposed first weights at an index. -/
theorem wtV_at (i : Fin 64) (k : Fin 3) : wtV m c (ix2 i k) = m ((c : Thread nD τ).loc main_arg6) (ix2 k i) := by
  unfold wtV
  generalize m ((c : Thread nD τ).loc main_arg6) = a
  pointwise
/-- The transposed embedding at an index. -/
theorem etV_at (i : Fin 64) (k : Fin 100) : etV m c (ix2 i k) = m ((c : Thread nD τ).loc main_arg8) (ix2 k i) := by
  unfold etV
  generalize m ((c : Thread nD τ).loc main_arg8) = a
  pointwise
/-- The hidden bias at an index. -/
theorem bcV_at (i : Fin 64) : bcV m c (ix2 i 0) = m ((c : Thread nD τ).loc main_arg7) (ix1 i) := by
  unfold bcV
  generalize m ((c : Thread nD τ).loc main_arg7) = a
  pointwise

/-- The energy as the host computes it, from the two sums, the output bias and the reference energy. -/
def enV (e k : FVec Ideal S1x1 .f32) (b : FVec Ideal Cert.KernelIdeal.S1 .f32) (z : FVec Ideal S1x1 .f32) : FVec Ideal S1x1 .f32 :=
  shapeCast S1x1 (subf (addf (addf (shapeCast S_ e shapeCasts_S1x1_S_) (mulf (constant S_ .f32 0x49435000#32) (shapeCast S_ b shapeCasts_S1_S_)))
    (mulf (constant S_ .f32 0x3F000000#32) (shapeCast S_ k shapeCasts_S1x1_S_))) (shapeCast S_ z shapeCasts_S1x1_S_)) shapeCasts_S_S1x1

/-- The energy as a number. -/
theorem enV_at (e k : FVec Ideal S1x1 .f32) (b : FVec Ideal Cert.KernelIdeal.S1 .f32) (z : FVec Ideal S1x1 .f32) :
    enV e k b z (ix2 0 0) = e (ix2 0 0) + Ideal.ofBits FTy.f32 0x49435000#32 * b (ix1 0) + Ideal.ofBits FTy.f32 0x3F000000#32 * k (ix2 0 0) - z (ix2 0 0) := by
  pointwise [enV]

/-- The first result: the energy above the momenta. -/
def colV (e : FVec Ideal S1x1 .f32) (p : FVec Ideal S3x1 .f32) : FVec Ideal S4x1 .f32 := concatenate S4x1 0 [⟨S1x1, e⟩, ⟨S3x1, p⟩] concatenates_S1x1_S3x1_S4x1_d0
/-- The first result at an index. -/
theorem colV_at (e : FVec Ideal S1x1 .f32) (p : FVec Ideal S3x1 .f32) (k : Fin 4) :
    colV e p (ix2 k 0) = if h : (k : ℕ) < 1 then e (ix2 ⟨k, h⟩ 0) else p (ix2 ⟨k - 1, by omega⟩ 0) := by
  pointwise [colV]

/-- The energy, repeated on three rows. -/
def repV (e : FVec Ideal S1x1 .f32) : FVec Ideal S3x1 .f32 := broadcastInDim S3x1 ![0, 1] bcast_S1x1_S3x1_0_1 e
/-- The repeated energy at an index. -/
theorem repV_at (e : FVec Ideal S1x1 .f32) (k : Fin 3) : repV e (ix2 k 0) = e (ix2 0 0) := by
  pointwise [repV]

/-- What the second host stretch leaves for the first result. -/
theorem exit_v0 : V3 m outs c main_v0_0 = colV (enV (V2 m outs c main_call0_v4_1) (V2 m outs c main_call0_v4_2) (V2 m outs c main_arg10) (V2 m outs c main_arg5)) (V2 m outs c main_call0_v4_3) := by
  show StableHlo.after hostOps1 (V2 m outs c) (Proc.devRef .tc main_v0_0) = _
  entry_read
  rfl
/-- What the second host stretch leaves for the second region. -/
theorem exit_v17 : W3 m outs c main_call0_v17 = repV (enV (V2 m outs c main_call0_v4_1) (V2 m outs c main_call0_v4_2) (V2 m outs c main_arg10) (V2 m outs c main_arg5)) := by
  show StableHlo.after hostOps1 (V2 m outs c) (Proc.devRef .tc main_call0_v17) = _
  entry_read
  rfl

/-- The region's first array, read after it. -/
theorem V2_v4_0 : V2 m outs c main_call0_v4_0 = outs 2 main_call0_v4_0 c := by
  simp only [V2, Function.update_of_ne (StableHlo.devRef_ne_of_ne (by decide) : (Proc.devRef .tc main_call0_v4_0 : DevRef τ sig) ≠ Proc.devRef .tc main_call0_v4_3),
    Function.update_of_ne (StableHlo.devRef_ne_of_ne (by decide) : (Proc.devRef .tc main_call0_v4_0 : DevRef τ sig) ≠ Proc.devRef .tc main_call0_v4_2),
    Function.update_of_ne (StableHlo.devRef_ne_of_ne (by decide) : (Proc.devRef .tc main_call0_v4_0 : DevRef τ sig) ≠ Proc.devRef .tc main_call0_v4_1),
    Function.update_self]
/-- The region's second array, read after it. -/
theorem V2_v4_1 : V2 m outs c main_call0_v4_1 = outs 2 main_call0_v4_1 c := by
  simp only [V2, Function.update_of_ne (StableHlo.devRef_ne_of_ne (by decide) : (Proc.devRef .tc main_call0_v4_1 : DevRef τ sig) ≠ Proc.devRef .tc main_call0_v4_3),
    Function.update_of_ne (StableHlo.devRef_ne_of_ne (by decide) : (Proc.devRef .tc main_call0_v4_1 : DevRef τ sig) ≠ Proc.devRef .tc main_call0_v4_2),
    Function.update_self]
/-- The region's third array, read after it. -/
theorem V2_v4_2 : V2 m outs c main_call0_v4_2 = outs 2 main_call0_v4_2 c := by
  simp only [V2, Function.update_of_ne (StableHlo.devRef_ne_of_ne (by decide) : (Proc.devRef .tc main_call0_v4_2 : DevRef τ sig) ≠ Proc.devRef .tc main_call0_v4_3),
    Function.update_self]
/-- The region's fourth array, read after it. -/
theorem V2_v4_3 : V2 m outs c main_call0_v4_3 = outs 2 main_call0_v4_3 c := by
  simp only [V2, Function.update_self]

/-- The energy, of the arguments. -/
def kE : FVec Ideal S1x1 .f32 :=
  enV (accE (m ((c : Thread nD τ).loc main_arg0)) (m ((c : Thread nD τ).loc main_arg3)) (wtV m c) (etV m c) (m ((c : Thread nD τ).loc main_arg9)) (bcV m c) 48)
    (accK (m ((c : Thread nD τ).loc main_arg1)) (m ((c : Thread nD τ).loc main_arg4)) 48) (m ((c : Thread nD τ).loc main_arg10)) (m ((c : Thread nD τ).loc main_arg5))
/-- The momenta, of the arguments. -/
def kP : FVec Ideal S3x1 .f32 := accP (m ((c : Thread nD τ).loc main_arg1)) (m ((c : Thread nD τ).loc main_arg4)) 48
/-- The six rows, of the arguments. -/
def kSt : FVec Ideal S6x800000 .f32 :=
  stA (m ((c : Thread nD τ).loc main_arg0)) (m ((c : Thread nD τ).loc main_arg3)) (m ((c : Thread nD τ).loc main_arg1)) (m ((c : Thread nD τ).loc main_arg4))
    (wtV m c) (m ((c : Thread nD τ).loc main_arg6)) (etV m c) (m ((c : Thread nD τ).loc main_arg9)) (bcV m c)

/-- An argument at the first region's entry is as launched. -/
theorem W1_arg (r : Ref sig .tc) (h : r ∉ hostOps0_W) : W1 m c r = m ((c : Thread nD τ).loc r) := V1_of m c r h

/-- The kernel's program over the extended reals: its two results and its unchanged arguments. -/
theorem kern (g : Dev nD → PrngReg) :
    θ_run defs (onTc (τ := τ) (main (F := Ideal))) ⟨m, fun _ => 0, g⟩ (fun r => ∀ c : Dev nD,
      r.2.mem ((c.tc : Thread nD τ).loc main_v0_0) = colV (kE m c) (kP m c)
      ∧ r.2.mem ((c.tc : Thread nD τ).loc main_v0_1) = jA (kSt m c) (m ((c.tc : Thread nD τ).loc main_arg4)) (repV (kE m c)) (kP m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))) := by
  refine (θ_run defs _ _).mono (fun r h c => ?_)
    (run m (fun c => aft0 c (W1 m c)) (fun outs c => aft1 c (W3 m outs c)) (fun _ => false) (fun _ => false) (fun c => exact0 c _) (fun outs c => exact1 c _) g)
  obtain ⟨hargs, outs, ⟨h9, h10, h11, h12⟩, hc, hj⟩ := h.1 c
  have h9 := (h9 rfl).trans (arr0_9 c (W1 m c))
  have h10 := (h10 rfl).trans (arr0_10 c (W1 m c))
  have h11 := (h11 rfl).trans (arr0_11 c (W1 m c))
  have h12 := (h12 rfl).trans (arr0_12 c (W1 m c))
  have hj := (hj rfl).trans (arr1_4 c (W3 m outs c))
  have a (r : Ref sig .tc) (h0 : r ∉ hostOps0_W) (h : r ∉ ([main_call0_v4_0, main_call0_v4_1, main_call0_v4_2, main_call0_v4_3] : List (Ref sig .tc))) :
      V2 m outs c r = m ((c : Thread nD τ).loc r) := (V2_of m outs c r h).trans (V1_of m c r h0)
  have e4 : W3 m outs c main_arg4 = m ((c : Thread nD τ).loc main_arg4) := (V3_of m outs c main_arg4 (by decide)).trans (a main_arg4 (by decide) (by decide))
  have eE : sumE0 c (W1 m c) 48 = accE (m ((c : Thread nD τ).loc main_arg0)) (m ((c : Thread nD τ).loc main_arg3)) (wtV m c) (etV m c) (m ((c : Thread nD τ).loc main_arg9)) (bcV m c) 48 := by
    unfold sumE0
    rw [entry_v0, entry_v2, entry_v3, W1_arg m c main_arg0 (by decide), W1_arg m c main_arg3 (by decide), W1_arg m c main_arg9 (by decide)]
  have eK : sumK0 c (W1 m c) 48 = accK (m ((c : Thread nD τ).loc main_arg1)) (m ((c : Thread nD τ).loc main_arg4)) 48 := by
    unfold sumK0
    rw [W1_arg m c main_arg1 (by decide), W1_arg m c main_arg4 (by decide)]
  have eP : sumP0 c (W1 m c) 48 = kP m c := by
    unfold sumP0 kP
    rw [W1_arg m c main_arg1 (by decide), W1_arg m c main_arg4 (by decide)]
  have eS : rows0 c (W1 m c) = kSt m c := by
    unfold rows0 kSt
    rw [entry_v0, entry_v2, entry_v3, W1_arg m c main_arg0 (by decide), W1_arg m c main_arg1 (by decide), W1_arg m c main_arg3 (by decide), W1_arg m c main_arg4 (by decide), W1_arg m c main_arg6 (by decide),
      W1_arg m c main_arg9 (by decide)]
  have eEn : enV (V2 m outs c main_call0_v4_1) (V2 m outs c main_call0_v4_2) (V2 m outs c main_arg10) (V2 m outs c main_arg5) = kE m c := by
    rw [a main_arg10 (by decide) (by decide), a main_arg5 (by decide) (by decide), V2_v4_1, V2_v4_2, h10, h11, eE, eK]
    rfl
  refine ⟨hc.trans ?_, hj.trans ?_, hargs⟩
  · rw [exit_v0, eEn, V2_v4_3, h12, eP]
  · have e0 : W3 m outs c main_call0_v4_0 = kSt m c := by
      rw [← eS, ← h9, ← V2_v4_0 m outs c]; exact V3_of m outs c main_call0_v4_0 (by decide)
    have e3 : W3 m outs c main_call0_v4_3 = kP m c := by
      rw [← eP, ← h12, ← V2_v4_3 m outs c]; exact V3_of m outs c main_call0_v4_3 (by decide)
    unfold res1
    rw [e0, e3, e4, exit_v17, eEn]

end Cert.KernelIdeal.Hand

end
-- ==== Proof.RefOps.lean ====
/-
  The three host operations of the reference that read or add up by an index table: the row lookup, the sum into one cell and
  the conjunction along an axis, each read at an element.
-/
module

public import proofs.«01_k».proof.Proof.Gen.ReferenceIdeal.Read
public import Idealize.ShloMosaic.Lib.Pointwise
public import Idealize.ShloMosaic.Lib.Routing.OpsPair
public import Idealize.ShloMosaic.Lib.StableHlo.Predicate

@[expose] public section

set_option maxRecDepth 16384

noncomputable section

namespace Cert.ReferenceIdeal.Hand

open Cert.ReferenceIdeal Cert.ReferenceIdeal.Gen
open Idealize.ShloMosaic

/-- A fold of conjunctions of set bits from a set bit is set. -/
theorem fold_and {ι : Type} (l : List ι) (f : ι → BitVec 1) (hf : ∀ n, f n = 1#1) :
    l.foldl (fun r n => IntOp.andi r (f n)) 1#1 = 1#1 := by
  induction l with
  | nil => rfl
  | cons a l ih => rw [List.foldl_cons, hf a]; exact ih

/-- The conjunction of set bits along an axis is set. -/
theorem reduce_and {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact fold_and _ _ fun n => hx _

/-- The index table is read, for the lookup's element at row `n`, at row `n`. -/
theorem row_si (n : Fin 800000) (s : Fin 64) (k : Fin gather_S100x64_S800000x1_S800000x64_1_0_n_n_0_1_164.startIndexMap.length) :
    gather_S100x64_S800000x1_S800000x64_1_0_n_n_0_1_164.siIdx (ix2 n s) k = ix2 n 0 := by
  funext q
  match q with
  | ⟨0, _⟩ =>
    unfold GatherDims.siIdx
    rw [dif_neg (show ¬ (0 = gather_S100x64_S800000x1_S800000x64_1_0_n_n_0_1_164.indexVectorDim) from (by decide : (0 : ℕ) ≠ 1))]
    apply Fin.ext
    unfold GatherDims.siCoord
    rfl
  | ⟨1, _⟩ => exact Subsingleton.elim (α := Fin 1) _ _

/-- The row lookup reads the table at the row its index word names, when that row is in the table. -/
theorem row_lookup {α : Type} (x : S100x64.Idx → α) (idx : IVec S800000x1 32) (n : Fin 800000) (s : Fin 64) (a : Fin 100)
    (ha : (idx (ix2 n 0)).toInt.toNat = a) :
    Host.gather gather_S100x64_S800000x1_S800000x64_1_0_n_n_0_1_164 x idx (ix2 n s) = x (ix2 a s) := by
  unfold Host.gather
  refine congrArg x (funext fun b => Fin.ext ?_)
  have hob : ∀ b : Fin 2, b ∉ gather_S100x64_S800000x1_S800000x64_1_0_n_n_0_1_164.operandBatchingDims := fun b => List.not_mem_nil
  match b with
  | ⟨0, _⟩ =>
    have hk : (0 : Fin 2) ∉ gather_S100x64_S800000x1_S800000x64_1_0_n_n_0_1_164.sKept := by
      rw [GatherDims.mem_sKept]; exact fun h => h.1 (List.mem_singleton.mpr rfl)
    have hm : (0 : Fin 2) ∈ gather_S100x64_S800000x1_S800000x64_1_0_n_n_0_1_164.startIndexMap := List.mem_singleton.mpr rfl
    show (gather_S100x64_S800000x1_S800000x64_1_0_n_n_0_1_164.operandIdx (ix2 n s) idx 0).val = (a : ℕ)
    simp only [GatherDims.operandIdx, GatherDims.batchCoord_eq_zero _ _ _ (hob 0), GatherDims.offCoord_eq_zero _ _ _ hk,
      Nat.add_zero, GatherDims.start, dif_pos hm, row_si, ha]
    show min (a : ℕ) (100 - 1) = a
    have := a.isLt
    omega
  | ⟨1, _⟩ =>
    have hm : (1 : Fin 2) ∉ gather_S100x64_S800000x1_S800000x64_1_0_n_n_0_1_164.startIndexMap := by
      show (1 : Fin 2) ∉ [(0 : Fin 2)]
      decide
    have hk : (1 : Fin 2) ∈ gather_S100x64_S800000x1_S800000x64_1_0_n_n_0_1_164.sKept := by
      show (1 : Fin 2) ∈ S100x64.kept ([0] ++ [])
      decide
    show (gather_S100x64_S800000x1_S800000x64_1_0_n_n_0_1_164.operandIdx (ix2 n s) idx 1).val = (s : ℕ)
    simp only [GatherDims.operandIdx, GatherDims.batchCoord_eq_zero _ _ _ (hob 1), GatherDims.start, dif_neg hm, Nat.zero_add]
    unfold GatherDims.offCoord
    rw [dif_pos hk]
    rfl

/-- The sum into the one cell, every index word being zero: the cell's element and all the updates. -/
theorem cell_sum (x : FVec Ideal S1x1 .f32) (idx : IVec S800000x1 32) (upd : FVec Ideal S800000x1 .f32) (hi : ∀ i, idx i = 0#32) :
    Host.scatterAdd scatter_S1x1_S800000x1_S800000x1_1_0_0_1 x idx upd (ix2 0 0)
      = x (ix2 0 0) + ∑ n : Fin 800000, upd (ix2 n 0) := by
  show x (ix2 0 0) + ∑ j ∈ Finset.univ.filter (fun j => _ = _), upd j = _
  rw [Finset.filter_true_of_mem fun j _ => ?_]
  · rw [ValueIdx.sum_idx2]
    refine congrArg _ (Finset.sum_congr rfl fun n _ => ?_)
    exact Fin.sum_univ_one _
  · rw [Routing.resultIdx?_eq_some]
    intro a
    match a with
    | ⟨0, _⟩ =>
      show (idx _).toInt + 0 = 0
      rw [hi]; rfl
    | ⟨1, _⟩ =>
      show (0 : Int) + ((j 1).val : Int) = 0
      have := (j 1).isLt
      have e : (j 1).val < 1 := this
      omega

end Cert.ReferenceIdeal.Hand
-- ==== Proof.Ref.lean ====
/-
  The reference's intermediate arrays over the extended reals, each read at an element: the hidden layer, the energies, the
  momenta and the gradient.
-/
module

public import proofs.«01_k».proof.Proof.RefOps

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.Tactic

variable (x0 x1 : FVec Ideal S800000x3 .f32) (x2 x3 : IVec S800000 32) (x4 : FVec Ideal S800000 .f32) (x5 : FVec Ideal S1x1 .f32)
  (x6 : FVec Ideal S3x64 .f32) (x7 : FVec Ideal S64 .f32) (x8 : FVec Ideal S100x64 .f32) (x9 : FVec Ideal S64x1 .f32) (x10 : FVec Ideal S1 .f32)
  (zf : Fin 800000 → Fin 100)

/-- The hidden layer at unit `s` and atom `n`; the embedding row is the atom's element. -/
def hidR (s : Fin 64) (n : Fin 800000) : EReal :=
  Ideal.tanh (∑ k : Fin 3, x0 (ix2 n k) * x6 (ix2 k s) + x7 (ix1 s) + x8 (ix2 (zf n) s))

/-- A small word is not below zero. -/
theorem not_neg (a : Fin 100) : IntOp.cmpi .slt (BitVec.ofNat 32 a) 0#32 = 0#1 := by
  revert a; decide

/-- An element's word is not negative, so the lookup's wrap leaves it. -/
theorem take_v5 (hz : ∀ n, x3 (ix1 n) = BitVec.ofNat 32 (zf n)) (n : Fin 800000) :
    val_main_call0_v5 (F := Ideal) x3 (ix2 n 0) = BitVec.ofNat 32 (zf n) := by
  pointwise [val_main_call0_v5, val_main_call0_v4, val_main_call0_v1, val_main_call0_v0, val_main_call0_c, val_main_call0_v3]
  rw [hz, not_neg]
  rfl

/-- The weighted positions and the bias. -/
theorem pre_v5 (n : Fin 800000) (s : Fin 64) :
    val_main_v5 (F := Ideal) x0 x6 x7 (ix2 n s) = ∑ k : Fin 3, x0 (ix2 n k) * x6 (ix2 k s) + x7 (ix1 s) := by
  pointwise [val_main_v5, val_main_v2, val_main_v4, val_main_v3]

/-- Every element of a column is at its row's first place. -/
theorem col_idx (i : S800000x1.Idx) : ∃ n : Fin 800000, i = ix2 n 0 := by
  refine ⟨i 0, funext fun a => ?_⟩
  match a with
  | ⟨0, _⟩ => rfl
  | ⟨1, _⟩ => exact Subsingleton.elim (α := Fin 1) _ _

/-- An element's word is at least zero and at most ninety-nine. -/
theorem in_table (a : Fin 100) : IntOp.andi (IntOp.cmpi .sge (BitVec.ofNat 32 a) 0#32) (IntOp.cmpi .sle (BitVec.ofNat 32 a) 99#32) = 1#1 := by
  revert a; decide

/-- The lookup's range check holds at each atom. -/
theorem take_v11 (hz : ∀ n, x3 (ix1 n) = BitVec.ofNat 32 (zf n)) (i : S800000x1.Idx) : val_main_call0_v11 (F := Ideal) x3 i = 1#1 := by
  obtain ⟨n, rfl⟩ := col_idx i
  rw [val_main_call0_v11_apply, val_main_call0_v7_apply, val_main_call0_v10_apply, take_v5 x3 zf hz]
  exact in_table _

/-- A word below a hundred, read signed, is its number. -/
theorem word_int (a : Fin 100) : (BitVec.ofNat 32 a).toInt.toNat = a := by
  revert a; decide

/-- The lookup reads the atom's element's row. -/
theorem take_v6 (hz : ∀ n, x3 (ix1 n) = BitVec.ofNat 32 (zf n)) (n : Fin 800000) (s : Fin 64) :
    val_main_v6 (F := Ideal) x3 x8 (ix2 n s) = x8 (ix2 (zf n) s) := by
  rw [val_main_v6_apply, val_main_call0_v14_apply]
  have h : val_main_call0_v12 (F := Ideal) x3 (idx_main_call0_v14 (ix2 n s)) = 1#1 :=
    reduce_and _ _ _ _ (take_v11 x3 zf hz) (fun _ => rfl) _
  rw [h]
  refine (if_pos rfl).trans ?_
  exact row_lookup x8 _ n s (zf n) ((congrArg (fun w : BitVec 32 => w.toInt.toNat) (take_v5 x3 zf hz n)).trans (word_int _))

/-- The hidden layer. -/
theorem val_v8 (hz : ∀ n, x3 (ix1 n) = BitVec.ofNat 32 (zf n)) (n : Fin 800000) (s : Fin 64) :
    val_main_v8 (F := Ideal) x0 x3 x6 x7 x8 (ix2 n s) = hidR x0 x6 x7 x8 zf s n := by
  rw [val_main_v8_apply, val_main_v7_apply, pre_v5, take_v6 x3 x8 zf hz]
  rfl

/-- The hidden layer as the gradient forms it again. -/
theorem val_v31 (hz : ∀ n, x3 (ix1 n) = BitVec.ofNat 32 (zf n)) (n : Fin 800000) (s : Fin 64) :
    val_main_v31 (F := Ideal) x0 x3 x6 x7 x8 (ix2 n s) = hidR x0 x6 x7 x8 zf s n :=
  (show _ = val_main_v8 (F := Ideal) x0 x3 x6 x7 x8 (ix2 n s) from rfl).trans (val_v8 x0 x3 x6 x7 x8 zf hz n s)

/-- One atom's potential energy. -/
theorem val_v12 (hz : ∀ n, x3 (ix1 n) = BitVec.ofNat 32 (zf n)) (n : Fin 800000) :
    val_main_v12 (F := Ideal) x0 x3 x6 x7 x8 x9 x10 (ix2 n 0)
      = ∑ s : Fin 64, hidR x0 x6 x7 x8 zf s n * x9 (ix2 s 0) + x10 (ix1 0) := by
  rw [val_main_v12_apply]
  refine congrArg₂ (fun a b : EReal => a + b) ?_ ?_
  · rw [val_main_v9_apply]
    refine Finset.sum_congr rfl fun s _ => congrArg₂ (fun a b : EReal => a * b) ?_ ?_
    · rw [← val_v8 x0 x3 x6 x7 x8 zf hz n s]
      exact congrArg _ (by idx_ext)
    · exact congrArg _ (by idx_ext)
  · pointwise [val_main_v11, val_main_v10]

/-- The potential energy of all atoms. -/
theorem val_v15 (hz : ∀ n, x3 (ix1 n) = BitVec.ofNat 32 (zf n)) (hb : ∀ i, x2 i = 0#32) :
    val_main_v15 (F := Ideal) x0 x2 x3 x6 x7 x8 x9 x10 (ix2 0 0)
      = ∑ n : Fin 800000, (∑ s : Fin 64, hidR x0 x6 x7 x8 zf s n * x9 (ix2 s 0) + x10 (ix1 0)) := by
  refine (cell_sum _ _ _ fun i => hb _).trans ?_
  refine Eq.trans (congrArg₂ (fun a b : EReal => a + b) ?_ (Finset.sum_congr rfl fun n _ => val_v12 x0 x3 x6 x7 x8 x9 x10 zf hz n)) (zero_add _)
  pointwise [val_main_v13, val_main_cst_0]

/-- One atom's kinetic energy, doubled. -/
theorem val_v18 (n : Fin 800000) :
    val_main_v18 (F := Ideal) x1 x4 (ix2 n 0) = x4 (ix1 n) * ∑ k : Fin 3, x1 (ix2 n k) * x1 (ix2 n k) := by
  pointwise [val_main_v18, val_main_v0, val_main_v17, val_main_v16, val_main_v1, val_main_cst]

/-- The kinetic energy of all atoms, doubled. -/
theorem val_v21 (hb : ∀ i, x2 i = 0#32) :
    val_main_v21 (F := Ideal) x1 x2 x4 (ix2 0 0) = ∑ n : Fin 800000, x4 (ix1 n) * ∑ k : Fin 3, x1 (ix2 n k) * x1 (ix2 n k) := by
  refine (cell_sum _ _ _ fun i => hb _).trans ?_
  refine Eq.trans (congrArg₂ (fun a b : EReal => a + b) ?_ (Finset.sum_congr rfl fun n _ => val_v18 x1 x4 n)) (zero_add _)
  pointwise [val_main_v19, val_main_cst_1]

/-- The energy of all atoms. -/
def enR : EReal :=
  (∑ n : Fin 800000, (∑ s : Fin 64, hidR x0 x6 x7 x8 zf s n * x9 (ix2 s 0) + x10 (ix1 0)))
    + Ideal.ofBits FTy.f32 0x3F000000#32 * (∑ n : Fin 800000, x4 (ix1 n) * ∑ k : Fin 3, x1 (ix2 n k) * x1 (ix2 n k))
    - x5 (ix2 0 0)

/-- The printed energy. -/
theorem val_v61 (hz : ∀ n, x3 (ix1 n) = BitVec.ofNat 32 (zf n)) (hb : ∀ i, x2 i = 0#32) :
    val_main_v61 (F := Ideal) x0 x1 x2 x3 x4 x5 x6 x7 x8 x9 x10 (ix2 0 0) = enR x0 x1 x4 x5 x6 x7 x8 x9 x10 zf := by
  rw [val_main_v61_apply, val_main_v24_apply, val_main_v23_apply, val_v15 x0 x2 x3 x6 x7 x8 x9 x10 zf hz hb, val_v21 x1 x2 x4 hb]
  have h : val_main_v22 (F := Ideal) (ix2 0 0) = Ideal.ofBits FTy.f32 0x3F000000#32 := by pointwise [val_main_v22, val_main_cst_2]
  rw [h]
  rfl

/-- The total momentum. -/
theorem val_v63 (k : Fin 3) :
    val_main_v63 (F := Ideal) x1 x4 (ix2 k 0) = ∑ n : Fin 800000, x1 (ix2 n k) * x4 (ix1 n) := by
  pointwise [val_main_v63, val_main_v62, val_main_v0]

/-- Zero is at least and at most zero. -/
theorem zero_range : IntOp.andi (IntOp.cmpi .sge 0#32 0#32) (IntOp.cmpi .sle 0#32 0#32) = 1#1 := by decide

/-- The cell's gradient, looked up at each atom, is one. -/
theorem val_v57 (hb : ∀ i, x2 i = 0#32) (n : Fin 800000) : val_main_v57 (F := Ideal) x2 (ix2 n 0) = 1 := by
  rw [val_main_v57_apply, val_main_v55_apply]
  have h : val_main_v53 (F := Ideal) x2 (idx_main_v55 (ix2 n 0)) = 1#1 :=
    reduce_and _ _ _ _ (fun i => by
      rw [val_main_v52_apply, val_main_v48_apply, val_main_v51_apply, val_main_v42_apply, hb]
      exact zero_range) (fun _ => rfl) _
  rw [h]
  refine (if_pos rfl).trans ?_
  unfold val_main_v54 Host.gather
  rw [val_main_v46_apply]
  exact Ideal.ofBits_one_f32

/-- The gradient of the potential at atom `n`. -/
def grR (k : Fin 3) (n : Fin 800000) : EReal :=
  ∑ s : Fin 64, x9 (ix2 s 0) * ((1 + hidR x0 x6 x7 x8 zf s n) * (1 - hidR x0 x6 x7 x8 zf s n)) * x6 (ix2 k s)

/-- The printed gradient. -/
theorem val_v60 (hz : ∀ n, x3 (ix1 n) = BitVec.ofNat 32 (zf n)) (hb : ∀ i, x2 i = 0#32) (n : Fin 800000) (k : Fin 3) :
    val_main_v60 (F := Ideal) x0 x2 x3 x6 x7 x8 x9 (ix2 n k) = grR x0 x6 x7 x8 x9 zf k n := by
  rw [val_main_v60_apply]
  refine Finset.sum_congr rfl fun s _ => congrArg₂ (fun a b : EReal => a * b) ?_ ?_
  · have e : lidx_main_v60 (ix2 n k) s = ix2 n s := by idx_ext
    rw [e, val_main_v59_apply, val_main_v36_apply, val_main_v33_apply, val_main_v35_apply, val_v31 x0 x3 x6 x7 x8 zf hz n s]
    have h1 : val_main_v32 (F := Ideal) (ix2 n s) = 1 := by pointwise [val_main_v32, val_main_cst_3]
    have h2 : val_main_v34 (F := Ideal) (ix2 n s) = 1 := by pointwise [val_main_v34, val_main_cst_4]
    have h3 : val_main_v58 (F := Ideal) x2 x9 (ix2 n s) = x9 (ix2 s 0) := by
      rw [val_main_v58_apply]
      refine (Fin.sum_univ_one _).trans ?_
      have e1 : lidx_main_v58 (ix2 n s) 0 = ix2 n 0 := by idx_ext
      have e2 : ridx_main_v58 (ix2 n s) 0 = ix2 s 0 := by idx_ext
      rw [e1, e2, val_v57 x2 hb, one_mul]
    rw [h1, h2, h3]
    rfl
  · exact congrArg _ (by idx_ext)

/-- The energy above the total momentum. -/
def colR (k : Fin 4) : EReal :=
  if h : (k : ℕ) < 1 then enR x0 x1 x4 x5 x6 x7 x8 x9 x10 zf
  else ∑ n : Fin 800000, x1 (ix2 n ⟨k - 1, by omega⟩) * x4 (ix1 n)

/-- The first result. -/
theorem val_v64 (hz : ∀ n, x3 (ix1 n) = BitVec.ofNat 32 (zf n)) (hb : ∀ i, x2 i = 0#32) (k : Fin 4) :
    val_main_v64 (F := Ideal) x0 x1 x2 x3 x4 x5 x6 x7 x8 x9 x10 (ix2 k 0) = colR x0 x1 x4 x5 x6 x7 x8 x9 x10 zf k := by
  unfold val_main_v64
  pointwise
  unfold colR
  split
  · next h =>
    rw [← val_v61 x0 x1 x2 x3 x4 x5 x6 x7 x8 x9 x10 zf hz hb]
    exact congrArg _ (by idx_ext)
  · exact val_v63 x1 x4 _

/-- The energy, read back. -/
theorem val_v66 (hz : ∀ n, x3 (ix1 n) = BitVec.ofNat 32 (zf n)) (hb : ∀ i, x2 i = 0#32) :
    val_main_v66 (F := Ideal) x0 x1 x2 x3 x4 x5 x6 x7 x8 x9 x10 (ix1 0) = enR x0 x1 x4 x5 x6 x7 x8 x9 x10 zf := by
  rw [val_main_v66_apply, val_main_v65_apply]
  refine Eq.trans (congrArg _ (show _ = ix2 0 0 by idx_ext)) (val_v64 x0 x1 x2 x3 x4 x5 x6 x7 x8 x9 x10 zf hz hb 0)

/-- The six columns at atom `n`. -/
def jR (n : Fin 800000) (j : Fin 6) : EReal :=
  if h : (j : ℕ) < 3 then
    x1 (ix2 n ⟨j, h⟩) * x4 (ix1 n) * enR x0 x1 x4 x5 x6 x7 x8 x9 x10 zf
      + x4 (ix1 n) * ∑ n : Fin 800000, x1 (ix2 n ⟨j, h⟩) * x4 (ix1 n)
  else grR x0 x6 x7 x8 x9 zf ⟨j - 3, by omega⟩ n * enR x0 x1 x4 x5 x6 x7 x8 x9 x10 zf

/-- The energy flux's gradient half. -/
theorem val_v73 (hz : ∀ n, x3 (ix1 n) = BitVec.ofNat 32 (zf n)) (hb : ∀ i, x2 i = 0#32) (n : Fin 800000) (k : Fin 3) :
    val_main_v73 (F := Ideal) x0 x1 x2 x3 x4 x5 x6 x7 x8 x9 x10 (ix2 n k)
      = grR x0 x6 x7 x8 x9 zf k n * enR x0 x1 x4 x5 x6 x7 x8 x9 x10 zf := by
  rw [val_main_v73_apply, val_v60 x0 x2 x3 x6 x7 x8 x9 zf hz hb, val_main_v72_apply, val_main_v71_apply,
    ← val_v66 x0 x1 x2 x3 x4 x5 x6 x7 x8 x9 x10 zf hz hb]
  exact congrArg (fun i => grR x0 x6 x7 x8 x9 zf k n * val_main_v66 (F := Ideal) x0 x1 x2 x3 x4 x5 x6 x7 x8 x9 x10 i) (by idx_ext)

/-- The total momentum, read back. -/
theorem val_v67 (hz : ∀ n, x3 (ix1 n) = BitVec.ofNat 32 (zf n)) (hb : ∀ i, x2 i = 0#32) (k : Fin 3) :
    val_main_v67 (F := Ideal) x0 x1 x2 x3 x4 x5 x6 x7 x8 x9 x10 (ix2 k 0) = ∑ n : Fin 800000, x1 (ix2 n k) * x4 (ix1 n) := by
  rw [val_main_v67_apply]
  refine Eq.trans (congrArg _ (show _ = ix2 (⟨k + 1, by omega⟩ : Fin 4) 0 by idx_ext)) ?_
  refine (val_v64 x0 x1 x2 x3 x4 x5 x6 x7 x8 x9 x10 zf hz hb _).trans ?_
  unfold colR
  rw [dif_neg (by show ¬ ((k : ℕ) + 1 < 1); omega)]
  rfl

/-- The energy flux's momentum half. -/
theorem val_v82 (hz : ∀ n, x3 (ix1 n) = BitVec.ofNat 32 (zf n)) (hb : ∀ i, x2 i = 0#32) (n : Fin 800000) (k : Fin 3) :
    val_main_v82 (F := Ideal) x0 x1 x2 x3 x4 x5 x6 x7 x8 x9 x10 (ix2 n k)
      = x1 (ix2 n k) * x4 (ix1 n) * enR x0 x1 x4 x5 x6 x7 x8 x9 x10 zf
        + x4 (ix1 n) * ∑ n : Fin 800000, x1 (ix2 n k) * x4 (ix1 n) := by
  rw [val_main_v82_apply, val_main_v76_apply, val_main_v81_apply, val_main_v69_apply, val_main_v75_apply, val_main_v74_apply]
  have h68 : val_main_v68 (F := Ideal) x4 (ix2 n k) = x4 (ix1 n) := by pointwise [val_main_v68, val_main_v0]
  have h78 : val_main_v78 (F := Ideal) x4 (ix2 n k) = x4 (ix1 n) := by
    pointwise [val_main_v78, val_main_v0, val_main_v77, val_main_v1, val_main_cst]
    exact Fin.sum_univ_one _
  have h80 : val_main_v80 (F := Ideal) x0 x1 x2 x3 x4 x5 x6 x7 x8 x9 x10 (ix2 n k) = ∑ n : Fin 800000, x1 (ix2 n k) * x4 (ix1 n) := by
    rw [val_main_v80_apply]
    refine (Fin.sum_univ_one _).trans ?_
    rw [val_main_v79_apply, ← val_v67 x0 x1 x2 x3 x4 x5 x6 x7 x8 x9 x10 zf hz hb k]
    have h70 : val_main_v70 (F := Ideal) (lidx_main_v80 (ix2 n k) 0) = 1 := by
      rw [val_main_v70_apply]
      exact Ideal.ofBits_one_f32
    rw [h70, one_mul]
    exact congrArg _ (by idx_ext)
  rw [h68, h78, h80, ← val_v66 x0 x1 x2 x3 x4 x5 x6 x7 x8 x9 x10 zf hz hb]
  exact congrArg (fun i => x1 (ix2 n k) * x4 (ix1 n) * val_main_v66 (F := Ideal) x0 x1 x2 x3 x4 x5 x6 x7 x8 x9 x10 i
    + x4 (ix1 n) * ∑ n : Fin 800000, x1 (ix2 n k) * x4 (ix1 n)) (by idx_ext)

/-- The second result. -/
theorem val_v83 (hz : ∀ n, x3 (ix1 n) = BitVec.ofNat 32 (zf n)) (hb : ∀ i, x2 i = 0#32) (n : Fin 800000) (j : Fin 6) :
    val_main_v83 (F := Ideal) x0 x1 x2 x3 x4 x5 x6 x7 x8 x9 x10 (ix2 n j) = jR x0 x1 x4 x5 x6 x7 x8 x9 x10 zf n j := by
  unfold val_main_v83
  pointwise
  unfold jR
  split
  · exact val_v82 x0 x1 x2 x3 x4 x5 x6 x7 x8 x9 x10 zf hz hb n _
  · exact val_v73 x0 x1 x2 x3 x4 x5 x6 x7 x8 x9 x10 zf hz hb n _

end Cert.ReferenceIdeal.Hand
-- ==== Proof.Math.lean ====
/-
  The two programs' closed forms are equal over the extended reals: the sums over blocks of atoms are sums over atoms, the picked
  embedding row is the atom's, and the energies and gradients agree term by term.
-/
module

public import proofs.«01_k».proof.Proof.Kern
public import proofs.«01_k».proof.Proof.Ref

@[expose] public section

set_option maxRecDepth 16384

noncomputable section

namespace Cert.KernelIdeal.Hand

open Cert.KernelIdeal Cert.KernelIdeal.Gen
open Idealize.ShloMosaic
open Cert.ReferenceIdeal.Hand (hidR enR colR grR jR)

/-- A sum over a longer range whose further terms are zero is the sum over the shorter one. -/
theorem sum_pad {N M : ℕ} (h : N ≤ M) (f : Fin N → EReal) :
    ∑ k : Fin M, (if g : (k : ℕ) < N then f ⟨k, g⟩ else 0) = ∑ n : Fin N, f n := by
  obtain ⟨d, rfl⟩ := Nat.exists_eq_add_of_le h
  rw [Fin.sum_univ_add]
  have h1 : ∀ i : Fin N, (if g : ((Fin.castAdd d i : Fin (N + d)) : ℕ) < N then f ⟨_, g⟩ else 0) = f i := fun i => dif_pos i.isLt
  have h2 : ∀ i : Fin d, (if g : ((Fin.natAdd N i : Fin (N + d)) : ℕ) < N then f ⟨_, g⟩ else 0) = 0 := fun i =>
    dif_neg (by simp)
  simp only [h1, h2, Finset.sum_const_zero, add_zero]

/-- The sums over the lanes of the blocks, added up, are the sum over the atoms. -/
theorem sum_blocks (f : Fin 800000 → EReal) :
    ∑ u ∈ Finset.range (48 + 1), ∑ l : Fin 16384, onLane u f l = ∑ n : Fin 800000, f n := by
  rw [Finset.sum_range, ← sum_pad (by norm_num : 800000 ≤ 49 * 16384) f, Fin.sum_univ_tiles 49 16384 rfl]
  rfl

variable (x0 x1 : FVec Ideal S800000x3 .f32) (x2 x3 : IVec S800000 32) (x4 : FVec Ideal S800000 .f32) (x5 : FVec Ideal S1x1 .f32)
  (x6 : FVec Ideal S3x64 .f32) (x7 : FVec Ideal S64 .f32) (x8 : FVec Ideal S100x64 .f32) (x9 : FVec Ideal S64x1 .f32) (x10 : FVec Ideal Cert.KernelIdeal.S1 .f32)
  (zf : Fin 800000 → Fin 100) (wt : FVec Ideal S64x3 .f32) (et : FVec Ideal S64x100 .bf16) (bc : FVec Ideal S64x1 .f32)

/-- The picking factor of row `x` for the element `a` is one at `a`. -/
theorem pick_self (a : Fin 100) :
    FloatOps.sitofp (F := Ideal) FTy.f32 (BitVec.setWidth 32 (IntOp.cmpi CmpIPredicate.eq (BitVec.ofNat 32 a) (BitVec.ofNat 32 a))) = 1 := by
  have h : BitVec.setWidth 32 (IntOp.cmpi CmpIPredicate.eq (BitVec.ofNat 32 a) (BitVec.ofNat 32 a)) = 1#32 := by
    revert a; decide
  rw [h]
  show (((1#32 : BitVec 32).toInt : ℝ) : EReal) = 1
  rw [show (1#32 : BitVec 32).toInt = 1 from by decide]
  norm_num

/-- The picking factor of another row is zero. -/
theorem pick_other (x a : Fin 100) (h : x ≠ a) :
    FloatOps.sitofp (F := Ideal) FTy.f32 (BitVec.setWidth 32 (IntOp.cmpi CmpIPredicate.eq (BitVec.ofNat 32 x) (BitVec.ofNat 32 a))) = 0 := by
  have e : BitVec.ofNat 32 x ≠ BitVec.ofNat 32 a := fun q => h (Fin.ext (by
    have := congrArg BitVec.toNat q
    simp only [BitVec.toNat_ofNat] at this
    omega))
  have h : BitVec.setWidth 32 (IntOp.cmpi CmpIPredicate.eq (BitVec.ofNat 32 x) (BitVec.ofNat 32 a)) = 0#32 := by
    have : IntOp.cmpi CmpIPredicate.eq (BitVec.ofNat 32 x) (BitVec.ofNat 32 a) = 0#1 := by
      show BitVec.ofBool (_ == _) = 0#1
      rw [beq_eq_false_iff_ne.mpr e]; rfl
    rw [this]; rfl
  rw [h]
  show (((0#32 : BitVec 32).toInt : ℝ) : EReal) = 0
  rw [show (0#32 : BitVec 32).toInt = 0 from by decide]
  norm_num

/-- The kernel's hidden layer is the reference's. -/
theorem hid_eq (hz : ∀ n, x3 (ix1 n) = BitVec.ofNat 32 (zf n)) (hwt : ∀ i k, wt (ix2 i k) = x6 (ix2 k i))
    (het : ∀ i k, et (ix2 i k) = x8 (ix2 k i)) (hbc : ∀ i, bc (ix2 i 0) = x7 (ix1 i)) (s : Fin 64) (n : Fin 800000) :
    hidN x0 x3 wt et bc s n = hidR x0 x6 x7 x8 zf s n := by
  unfold hidN hidR
  rw [hbc, hz]
  have h : (∑ x : Fin 100, et (ix2 s x) * FloatOps.sitofp (F := Ideal) FTy.f32 (BitVec.setWidth 32 (IntOp.cmpi CmpIPredicate.eq (BitVec.ofNat 32 ↑x) (BitVec.ofNat 32 (zf n)))))
      = x8 (ix2 (zf n) s) := by
    rw [Finset.sum_eq_single (zf n)]
    · rw [pick_self, het]; exact mul_one _
    · intro b _ hb
      rw [pick_other _ _ hb]; exact mul_zero _
    · exact fun q => (q (Finset.mem_univ _)).elim
  rw [h]
  simp only [hwt]
  congr 3
  exact Finset.sum_congr rfl fun k _ => mul_comm _ _

/-- A square is not negative. -/
theorem sq_nonneg' (a : EReal) : 0 ≤ a * a := by
  rcases le_total 0 a with h | h
  · exact mul_nonneg h h
  · have h' : 0 ≤ -a := by simpa using h
    have := mul_nonneg h' h'
    simpa using this

/-- The energies agree. -/
theorem en_eq (hz : ∀ n, x3 (ix1 n) = BitVec.ofNat 32 (zf n)) (hwt : ∀ i k, wt (ix2 i k) = x6 (ix2 k i))
    (het : ∀ i k, et (ix2 i k) = x8 (ix2 k i)) (hbc : ∀ i, bc (ix2 i 0) = x7 (ix1 i)) :
    accE x0 x3 wt et x9 bc 48 (ix2 0 0) + Ideal.ofBits FTy.f32 0x49435000#32 * x10 (ix1 0)
        + Ideal.ofBits FTy.f32 0x3F000000#32 * accK x1 x4 48 (ix2 0 0) - x5 (ix2 0 0)
      = enR x0 x1 x4 x5 x6 x7 x8 x9 x10 zf := by
  unfold enR
  have hE : accE x0 x3 wt et x9 bc 48 (ix2 0 0) = ∑ n : Fin 800000, ∑ s : Fin 64, hidR x0 x6 x7 x8 zf s n * x9 (ix2 s 0) := by
    show ∑ u ∈ Finset.range (48 + 1), ∑ s : Fin 64, ∑ l, onLane u (fun n => hidN x0 x3 wt et bc s n * x9 (ix2 s 0)) l = _
    rw [Finset.sum_comm]
    simp only [sum_blocks, hid_eq x0 x3 x6 x7 x8 zf wt et bc hz hwt het hbc]
    exact Finset.sum_comm
  have hK : accK x1 x4 48 (ix2 0 0) = ∑ n : Fin 800000, x4 (ix1 n) * ∑ k : Fin 3, x1 (ix2 n k) * x1 (ix2 n k) := by
    show ∑ u ∈ Finset.range (48 + 1), ∑ k : Fin 3, ∑ l, onLane u (fun n => x1 (ix2 n k) * x4 (ix1 n) * x1 (ix2 n k)) l = _
    rw [Finset.sum_comm]
    simp only [sum_blocks]
    rw [Finset.sum_comm]
    refine Finset.sum_congr rfl fun n _ => ?_
    generalize x4 (ix1 n) = a
    simp only [Fin.sum_univ_three]
    rw [EReal.left_distrib_of_nonneg (add_nonneg (sq_nonneg' _) (sq_nonneg' _)) (sq_nonneg' _),
      EReal.left_distrib_of_nonneg (sq_nonneg' _) (sq_nonneg' _)]
    refine congrArg₂ (fun a b : EReal => a + b) (congrArg₂ (fun a b : EReal => a + b) ?_ ?_) ?_ <;>
      exact (congrArg (fun b : EReal => b * _) (mul_comm _ _)).trans (mul_assoc _ _ _)
  have hB : Ideal.ofBits FTy.f32 0x49435000#32 = ((800000 : ℕ) : EReal) := by
    rw [← EReal.coe_natCast, Nat.cast_ofNat]
    simp [Ideal.ofBits, Ideal.ieee, -EReal.coe_mul]; norm_num
  rw [hE, hK, hB, Finset.sum_add_distrib, Finset.sum_const, Finset.card_univ, Fintype.card_fin, EReal.nsmul_eq_mul]

/-- The total momenta agree. -/
theorem mo_eq (k : Fin 3) : accP x1 x4 48 (ix2 k 0) = ∑ n : Fin 800000, x1 (ix2 n k) * x4 (ix1 n) :=
  sum_blocks fun n => x1 (ix2 n k) * x4 (ix1 n)

/-- A hyperbolic tangent is a real number. -/
theorem tanh_real (x : EReal) : ∃ t : ℝ, Ideal.tanh x = (t : EReal) := by
  induction x with
  | bot => exact ⟨-1, rfl⟩
  | top => exact ⟨1, rfl⟩
  | coe x => exact ⟨Real.tanh x, rfl⟩

/-- The gradients agree. -/
theorem gr_eq (hz : ∀ n, x3 (ix1 n) = BitVec.ofNat 32 (zf n)) (hwt : ∀ i k, wt (ix2 i k) = x6 (ix2 k i))
    (het : ∀ i k, et (ix2 i k) = x8 (ix2 k i)) (hbc : ∀ i, bc (ix2 i 0) = x7 (ix1 i)) (k : Fin 3) (n : Fin 800000) :
    ∑ x : Fin 64, x6 (ix2 k x) * ((1 - hidN x0 x3 wt et bc x n * hidN x0 x3 wt et bc x n) * x9 (ix2 x 0))
      = grR x0 x6 x7 x8 x9 zf k n := by
  unfold grR
  refine Finset.sum_congr rfl fun s _ => ?_
  rw [hid_eq x0 x3 x6 x7 x8 zf wt et bc hz hwt het hbc]
  have h : (1 : EReal) - hidR x0 x6 x7 x8 zf s n * hidR x0 x6 x7 x8 zf s n
      = (1 + hidR x0 x6 x7 x8 zf s n) * (1 - hidR x0 x6 x7 x8 zf s n) := by
    obtain ⟨t, ht⟩ := tanh_real (∑ k : Fin 3, x0 (ix2 n k) * x6 (ix2 k s) + x7 (ix1 s) + x8 (ix2 (zf n) s))
    rw [show hidR x0 x6 x7 x8 zf s n = (t : EReal) from ht]
    norm_cast
    ring
  rw [h, mul_comm, mul_comm ((1 + _) * _)]

end Cert.KernelIdeal.Hand
-- ==== Proof.RefFrame.lean ====
/-
  The reference's frame: it runs to its end, its arguments unchanged; it declares no semaphore.
-/
module

public import proofs.«01_k».proof.Proof.Gen.ReferenceIdeal.Run
public import Idealize.ShloMosaic.Lib.Pointwise

@[expose] public section

noncomputable section

namespace Cert.ReferenceIdeal.Hand

open Cert.ReferenceIdeal Idealize.ShloMosaic Idealize.ShloMosaic.TcCoe Idealize.SL.Sem

/-- The reference declares no semaphore. -/
theorem no_sem : ∀ _ : SemLoc sig, False := by decide

/-- The reference runs to its end with its arguments unchanged and every semaphore at zero. -/
theorem frame (m : (ℓ : Loc nD τ sig) → Buf (Elt Ideal) ℓ) (g : Dev nD → PrngReg) :
    θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h c).2.2, funext fun s => (no_sem s.2).elim⟩) (Value.run m g)

end Cert.ReferenceIdeal.Hand

end
-- ==== Proof.Agree.lean ====
/-
  What the precondition says of the two index arguments, and that the kernel's two results are the reference's two result terms.
-/
module

public import proofs.«01_k».proof.Defs
public import proofs.«01_k».proof.Proof.Math
public import proofs.«01_k».proof.Proof.RefFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.ReferenceIdeal.Hand (hidR enR colR grR jR)

/-- The precondition function's shape fact. -/
theorem pre_facts : Cert.Pre_drawn_ints.Facts where
  bcast_S_S800000 := Cert.ReferenceIdeal.Facts₀.bcast_S_S800000

/-- A conjunction of two bits is set only when both are. -/
theorem and_both (a b : BitVec 1) (h : IntOp.andi a b = 1#1) : a = 1#1 ∧ b = 1#1 := by
  revert a b; decide

/-- A word that is at least zero and below a hundred, read signed, has a number below a hundred. -/
theorem word_small (w : BitVec 32) (h0 : IntOp.cmpi .sge w 0#32 = 1#1) (h1 : IntOp.cmpi .slt w 100#32 = 1#1) : w.toNat < 100 := by
  have e0 : BitVec.ofBool ((0#32).sle w) = 1#1 := h0
  have e1 : BitVec.ofBool (w.slt 100#32) = 1#1 := h1
  rw [StableHlo.Predicate.ofBool_eq_one_iff] at e0 e1
  rw [BitVec.sle_eq_decide, decide_eq_true_iff] at e0
  rw [BitVec.slt_eq_decide, decide_eq_true_iff] at e1
  rw [show (0#32 : BitVec 32).toInt = 0 from by decide] at e0
  rw [show (100#32 : BitVec 32).toInt = 100 from by decide] at e1
  rw [BitVec.toInt_eq_toNat_cond] at e0 e1
  split at e0 <;> omega

/-- The precondition: one batch, and every element in the table. -/
theorem pre_decode [Cert.Pre_drawn_ints.Facts] (x0 x1 : FVec Ideal S800000x3 .f32) (x2 x3 : IVec S800000 32) (x4 : FVec Ideal S800000 .f32)
    (x5 : FVec Ideal S1x1 .f32) (x6 : FVec Ideal S3x64 .f32) (x7 : FVec Ideal S64 .f32) (x8 : FVec Ideal S100x64 .f32)
    (x9 : FVec Ideal S64x1 .f32) (x10 : FVec Ideal Cert.KernelIdeal.S1 .f32)
    (h : Cert.Pre_drawn_ints.fn (F := Ideal) x0 x1 x2 x3 x4 x5 x6 x7 x8 x9 x10 = fun _ => 1#1) (n : Fin 800000) :
    x2 (ix1 n) = 0#32 ∧ (x3 (ix1 n)).toNat < 100 := by
  have h := congrFun h (ix1 n)
  have h : IntOp.andi (IntOp.andi (IntOp.cmpi .eq (x2 (ix1 n)) 0#32) (IntOp.cmpi .sge (x3 (ix1 n)) 0#32)) (IntOp.cmpi .slt (x3 (ix1 n)) 100#32) = 1#1 := h
  obtain ⟨h, h3⟩ := and_both _ _ h
  obtain ⟨h1, h2⟩ := and_both _ _ h
  refine ⟨?_, word_small _ h2 h3⟩
  have e : BitVec.ofBool (x2 (ix1 n) == 0#32) = 1#1 := h1
  rw [StableHlo.Predicate.ofBool_eq_one_iff] at e
  exact eq_of_beq e

variable (m : (ℓ : Loc nD τ sig) → Buf (Elt Ideal) ℓ) (c : Dev nD) (zf : Fin 800000 → Fin 100)

/-- The kernel's energy is the reference's. -/
theorem kE_eq (hz : ∀ n, (m ((c : Thread nD τ).loc main_arg3) : IVec S800000 32) (ix1 n) = BitVec.ofNat 32 (zf n)) :
    kE m c (ix2 0 0) = enR (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) zf := by
  unfold kE
  rw [enV_at]
  exact en_eq _ _ _ _ _ _ _ _ _ _ zf _ _ _ hz (wtV_at m c) (etV_at m c) (bcV_at m c)

/-- The first results agree. -/
theorem col_agree (hz : ∀ n, (m ((c : Thread nD τ).loc main_arg3) : IVec S800000 32) (ix1 n) = BitVec.ofNat 32 (zf n))
    (hb : ∀ i, (m ((c : Thread nD τ).loc main_arg2) : IVec S800000 32) i = 0#32) :
    Cert.ReferenceIdeal.Read.val_main_v64 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
    = colV (kE m c) (kP m c) := by
  funext i
  have hi : ∃ k : Fin 4, i = ix2 k 0 := by
    refine ⟨i 0, funext fun a => ?_⟩
    match a with
    | ⟨0, _⟩ => rfl
    | ⟨1, _⟩ => exact Subsingleton.elim (α := Fin 1) _ _
  obtain ⟨k, rfl⟩ := hi
  rw [Cert.ReferenceIdeal.Hand.val_v64 _ _ _ _ _ _ _ _ _ _ _ zf hz hb, colV_at]
  unfold colR
  split
  · next h =>
    have e : (⟨(k : ℕ), h⟩ : Fin 1) = 0 := Subsingleton.elim _ _
    rw [e, kE_eq m c zf hz]
  · exact (mo_eq _ _ _).symm

/-- The second results agree. -/
theorem j_agree (hz : ∀ n, (m ((c : Thread nD τ).loc main_arg3) : IVec S800000 32) (ix1 n) = BitVec.ofNat 32 (zf n))
    (hb : ∀ i, (m ((c : Thread nD τ).loc main_arg2) : IVec S800000 32) i = 0#32) :
    Cert.ReferenceIdeal.Read.val_main_v83 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
    = jA (kSt m c) (m ((c : Thread nD τ).loc main_arg4)) (repV (kE m c)) (kP m c) := by
  funext i
  have hi : ∃ (n : Fin 800000) (j : Fin 6), i = ix2 n j := ⟨i 0, i 1, by
    funext a
    match a with
    | ⟨0, _⟩ => rfl
    | ⟨1, _⟩ => rfl⟩
  obtain ⟨n, j, rfl⟩ := hi
  rw [Cert.ReferenceIdeal.Hand.val_v83 _ _ _ _ _ _ _ _ _ _ _ zf hz hb]
  show _ = jN (kSt m c) (m ((c : Thread nD τ).loc main_arg4)) (repV (kE m c)) (kP m c) n j
  have hs : kSt m c (ix2 j n) = stN (m ((c : Thread nD τ).loc main_arg0)) (m ((c : Thread nD τ).loc main_arg3)) (m ((c : Thread nD τ).loc main_arg1))
      (m ((c : Thread nD τ).loc main_arg4)) (wtV m c) (m ((c : Thread nD τ).loc main_arg6)) (etV m c) (m ((c : Thread nD τ).loc main_arg9)) (bcV m c) j n := rfl
  unfold jR jN
  rw [hs]
  unfold stN
  split
  · next h =>
    rw [repV_at, kE_eq m c zf hz]
    rw [show kP m c (ix2 ⟨j, h⟩ 0) = _ from mo_eq _ _ _]
  · next h =>
    rw [repV_at, kE_eq m c zf hz]
    exact congrArg (fun g : EReal => g * _) (gr_eq _ _ _ _ _ _ zf _ _ _ hz (wtV_at m c) (etV_at m c) (bcV_at m c) _ n).symm

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Transfer
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel and the reference, from equal arguments that meet the precondition, end with equal results. -/
theorem agree [hPre : Cert.Pre_drawn_ints.Facts] : Cert.algebraic_KernelIdeal_ReferenceIdeal_pre_drawn_ints := by
  intro m g m' g' hp hm
  refine ⟨_, _, Cert.KernelIdeal.Hand.kern m g, ?_⟩
  refine (θ_run Cert.ReferenceIdeal.defs _ _).mono (fun r h c => ?_) (Cert.ReferenceIdeal.Value.run m' g')
  obtain ⟨h64, h83, hargs⟩ := h c
  have hd := Cert.KernelIdeal.Hand.pre_decode _ _ _ _ _ _ _ _ _ _ _ (hp c)
  let zf : Fin 800000 → Fin 100 := fun n => ⟨_, (hd n).2⟩
  have hz : ∀ n, (m ((c.tc : Thread Cert.KernelIdeal.nD Cert.KernelIdeal.τ).loc Cert.KernelIdeal.main_arg3) : IVec Cert.KernelIdeal.S800000 32) (ix1 n)
      = BitVec.ofNat 32 (zf n) := fun n => BitVec.eq_of_toNat_eq (by
      have := (hd n).2
      rw [BitVec.toNat_ofNat]
      exact (Nat.mod_eq_of_lt (this.trans (by norm_num))).symm)
  have hb : ∀ i, (m ((c.tc : Thread Cert.KernelIdeal.nD Cert.KernelIdeal.τ).loc Cert.KernelIdeal.main_arg2) : IVec Cert.KernelIdeal.S800000 32) i = 0#32 :=
    fun i => (congrArg _ (by funext a; match a with | ⟨0, _⟩ => rfl)).trans (hd (i 0)).1
  obtain ⟨e0, e1, e2, e3, e4, e5, e6, e7, e8, e9, e10⟩ := hm c
  refine ⟨(h64.trans (Cert.ReferenceIdeal.Read.val_main_v64_eq _ _ _ _ _ _ _ _ _ _ _)).trans ?_,
    (h83.trans (Cert.ReferenceIdeal.Read.val_main_v83_eq m' c)).trans ?_, hargs⟩
  · rw [e0, e1, e2, e3, e4, e5, e6, e7, e8, e9, e10]
    exact Cert.KernelIdeal.Hand.col_agree m c zf hz hb
  · rw [e0, e1, e2, e3, e4, e5, e6, e7, e8, e9, e10]
    exact Cert.KernelIdeal.Hand.j_agree m c zf hz hb

/-- The five claims. -/
theorem claim : Cert.Claim := ⟨Cert.Kernel.Gen.facts, Cert.KernelIdeal.Gen.facts, Cert.ReferenceIdeal.Gen.facts, Cert.KernelIdeal.Hand.pre_facts,
  fun m g _ => Cert.Kernel.Hand.frame_any m g,
  fun m g _ => Cert.KernelIdeal.Hand.frame_any m g,
  fun m g _ => Cert.KernelIdeal.Hand.frame_any m g,
  fun m g _ => Cert.ReferenceIdeal.Hand.frame m g,
  fun m g _ => Cert.ReferenceIdeal.Hand.frame m g,
  trivial,
  agree (hPre := Cert.KernelIdeal.Hand.pre_facts)⟩

end Cert.Proof

end
